-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_masks [hPre_masks : Cert.Pre_masks.Facts] (m : (ℓ : Loc Cert.KernelIdeal.nD Cert.KernelIdeal.τ Cert.KernelIdeal.sig) → Buf (Elt Ideal) ℓ) : Prop :=
  ∀ c : Dev Cert.KernelIdeal.nD,
    (Cert.Pre_masks.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_masks [hPre_masks : Cert.Pre_masks.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_masks.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_masks [hKernelIdeal : Cert.KernelIdeal.Facts] [hPre_masks : Cert.Pre_masks.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_masks m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_masks [hReferenceIdeal : Cert.ReferenceIdeal.Facts] [hPre_masks : Cert.Pre_masks.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_masks m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  IdealRules.named_const.Statement Cert.KernelIdeal.κ "far" .f32 0x49742400#32 ⊤

def algebraic_KernelIdeal_ReferenceIdeal_pre_masks [hKernelIdeal : Cert.KernelIdeal.Facts] [hReferenceIdeal : Cert.ReferenceIdeal.Facts] [hPre_masks : Cert.Pre_masks.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_masks m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v386) = v0 c
          ∧ r.2.mem ((c.tc : Thread Cert.ReferenceIdeal.nD Cert.ReferenceIdeal.τ).loc Cert.ReferenceIdeal.main_v380) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_masks : Cert.Pre_masks.Facts),
    quiescent_Kernel (hKernel := hKernel)
    ∧ quiescent_KernelIdeal (hKernelIdeal := hKernelIdeal)
    ∧ quiescent_KernelIdeal_pre_masks (hKernelIdeal := hKernelIdeal) (hPre_masks := hPre_masks)
    ∧ quiescent_ReferenceIdeal (hReferenceIdeal := hReferenceIdeal)
    ∧ quiescent_ReferenceIdeal_pre_masks (hReferenceIdeal := hReferenceIdeal) (hPre_masks := hPre_masks)
    ∧ preserves_Kernel_KernelIdeal
    ∧ algebraic_KernelIdeal_ReferenceIdeal_pre_masks (hKernelIdeal := hKernelIdeal) (hReferenceIdeal := hReferenceIdeal) (hPre_masks := hPre_masks)
-- ==== Pre_masks.lean ====
abbrev S64x32x300 : Shape := ⟨3, ![64, 32, 300]⟩
abbrev S64x1024x300 : Shape := ⟨3, ![64, 1024, 300]⟩
abbrev S64x32 : Shape := ⟨2, ![64, 32]⟩
abbrev S64x1024 : Shape := ⟨2, ![64, 1024]⟩
abbrev S128x1x1x300 : Shape := ⟨4, ![128, 1, 1, 300]⟩
abbrev S128 : Shape := ⟨1, ![128]⟩
abbrev S128x1x2x300 : Shape := ⟨4, ![128, 1, 2, 300]⟩
abbrev S128x1x3x300 : Shape := ⟨4, ![128, 1, 3, 300]⟩
abbrev S1x99 : Shape := ⟨2, ![1, 99]⟩
abbrev S1 : Shape := ⟨1, ![1]⟩
abbrev S_ : Shape := ⟨0, ![]⟩

class Facts : Prop where
  bcast_S_S64x1024 : S_.BroadcastsInDim S64x1024 (![] : Fin 0 → Fin S64x1024.rank)

variable [Facts]

def fn {F : FTy → Type} [FloatOps F] (main_arg0 : FVec F S64x32x300 .f32) (main_arg1 : FVec F S64x1024x300 .f32) (main_arg2 : FVec F S64x32 .f32) (main_arg3 : FVec F S64x1024 .f32) (main_arg4 : FVec F S128x1x1x300 .f32) (main_arg5 : FVec F S128 .f32) (main_arg6 : FVec F S128x1x2x300 .f32) (main_arg7 : FVec F S128 .f32) (main_arg8 : FVec F S128x1x3x300 .f32) (main_arg9 : FVec F S128 .f32) (main_arg10 : FVec F S1x99 .f32) (main_arg11 : FVec F S1 .f32) : IVec S64x1024 1 :=
  let main_cst : FVec F S_ .f32 := constant S_ .f32 0x00000000#32
  let main_v0 : FVec F S64x1024 .f32 := broadcastInDim S64x1024 ![] bcast_S_S64x1024 main_cst
  let main_v1 : IVec S64x1024 1 := cmpf .oeq main_arg3 main_v0
  let main_cst_0 : FVec F S_ .f32 := constant S_ .f32 0x3F800000#32
  let main_v2 : FVec F S64x1024 .f32 := broadcastInDim S64x1024 ![] bcast_S_S64x1024 main_cst_0
  let main_v3 : IVec S64x1024 1 := cmpf .oeq main_arg3 main_v2
  let main_v4 : IVec S64x1024 1 := ori main_v1 main_v3
  main_v4
-- ==== Kernel.lean ====
abbrev S64x32x300 : Shape := ⟨3, ![64, 32, 300]⟩
abbrev S64x1024x300 : Shape := ⟨3, ![64, 1024, 300]⟩
abbrev S64x32 : Shape := ⟨2, ![64, 32]⟩
abbrev S64x1024 : Shape := ⟨2, ![64, 1024]⟩
abbrev S128x1x1x300 : Shape := ⟨4, ![128, 1, 1, 300]⟩
abbrev S128 : Shape := ⟨1, ![128]⟩
abbrev S128x1x2x300 : Shape := ⟨4, ![128, 1, 2, 300]⟩
abbrev S128x1x3x300 : Shape := ⟨4, ![128, 1, 3, 300]⟩
abbrev S1x99 : Shape := ⟨2, ![1, 99]⟩
abbrev S1 : Shape := ⟨1, ![1]⟩
abbrev S128x300 : Shape := ⟨2, ![128, 300]⟩
abbrev S768x300 : Shape := ⟨2, ![768, 300]⟩
abbrev S300x768 : Shape := ⟨2, ![300, 768]⟩
abbrev S_ : Shape := ⟨0, ![]⟩
abbrev S768 : Shape := ⟨1, ![768]⟩
abbrev S1x768 : Shape := ⟨2, ![1, 768]⟩
abbrev S32 : Shape := ⟨1, ![32]⟩
abbrev S64x3x96 : Shape := ⟨3, ![64, 3, 96]⟩
abbrev S2 : Shape := ⟨1, ![2]⟩
abbrev S1x32 : Shape := ⟨2, ![1, 32]⟩
abbrev S1024 : Shape := ⟨1, ![1024]⟩
abbrev S1x1024 : Shape := ⟨2, ![1, 1024]⟩
abbrev S64x1x1024 : Shape := ⟨3, ![64, 1, 1024]⟩
abbrev S64x3x1024 : Shape := ⟨3, ![64, 3, 1024]⟩
abbrev S1x1 : Shape := ⟨2, ![1, 1]⟩
abbrev S64x1x99 : Shape := ⟨3, ![64, 1, 99]⟩
abbrev S64x1x1 : Shape := ⟨3, ![64, 1, 1]⟩
abbrev S64 : Shape := ⟨1, ![64]⟩
abbrev S64x99 : Shape := ⟨2, ![64, 99]⟩
abbrev S1x32x300 : Shape := ⟨3, ![1, 32, 300]⟩
abbrev S1x1024x300 : Shape := ⟨3, ![1, 1024, 300]⟩
abbrev S1x3x96 : Shape := ⟨3, ![1, 3, 96]⟩
abbrev S1x3x1024 : Shape := ⟨3, ![1, 3, 1024]⟩
abbrev S1x1x99 : Shape := ⟨3, ![1, 1, 99]⟩
abbrev S1x1x1 : Shape := ⟨3, ![1, 1, 1]⟩
abbrev S32x300 : Shape := ⟨2, ![32, 300]⟩
abbrev S1024x300 : Shape := ⟨2, ![1024, 300]⟩
abbrev S32x768 : Shape := ⟨2, ![32, 768]⟩
abbrev S1024x768 : Shape := ⟨2, ![1024, 768]⟩
abbrev S32x128 : Shape := ⟨2, ![32, 128]⟩
abbrev S32x1 : Shape := ⟨2, ![32, 1]⟩
abbrev S96x128 : Shape := ⟨2, ![96, 128]⟩
abbrev S1024x128 : Shape := ⟨2, ![1024, 128]⟩
abbrev S1024x1 : Shape := ⟨2, ![1024, 1]⟩
abbrev S3x1024 : Shape := ⟨2, ![3, 1024]⟩
abbrev S96x1024 : Shape := ⟨2, ![96, 1024]⟩
abbrev S96 : Shape := ⟨1, ![96]⟩
abbrev S96x1 : Shape := ⟨2, ![96, 1]⟩
abbrev S96x11 : Shape := ⟨2, ![96, 11]⟩
abbrev S96x33 : Shape := ⟨2, ![96, 33]⟩
abbrev S3x96 : Shape := ⟨2, ![3, 96]⟩
abbrev S3x33 : Shape := ⟨2, ![3, 33]⟩
abbrev S1x11 : Shape := ⟨2, ![1, 11]⟩

abbrev nBuf : Space → Nat
  | .hbm => 88
  | .vmem => 16
  | .smem => 0
  | _ => 0

abbrev bufTy : (tb : Table) → Fin (tcTables nBuf tb) → BufTy
  | .hbm, ⟨0, _⟩ => ⟨S64x32x300, .f32⟩
  | .hbm, ⟨1, _⟩ => ⟨S64x1024x300, .f32⟩
  | .hbm, ⟨2, _⟩ => ⟨S64x32, .f32⟩
  | .hbm, ⟨3, _⟩ => ⟨S64x1024, .f32⟩
  | .hbm, ⟨4, _⟩ => ⟨S128x1x1x300, .f32⟩
  | .hbm, ⟨5, _⟩ => ⟨S128, .f32⟩
  | .hbm, ⟨6, _⟩ => ⟨S128x1x2x300, .f32⟩
  | .hbm, ⟨7, _⟩ => ⟨S128, .f32⟩
  | .hbm, ⟨8, _⟩ => ⟨S128x1x3x300, .f32⟩
  | .hbm, ⟨9, _⟩ => ⟨S128, .f32⟩
  | .hbm, ⟨10, _⟩ => ⟨S1x99, .f32⟩
  | .hbm, ⟨11, _⟩ => ⟨S1, .f32⟩
  | .hbm, ⟨12, _⟩ => ⟨S128x300, .f32⟩
  | .hbm, ⟨13, _⟩ => ⟨S128x1x1x300, .f32⟩
  | .hbm, ⟨14, _⟩ => ⟨S128x300, .f32⟩
  | .hbm, ⟨15, _⟩ => ⟨S128x1x1x300, .f32⟩
  | .hbm, ⟨16, _⟩ => ⟨S128x300, .f32⟩
  | .hbm, ⟨17, _⟩ => ⟨S128x1x1x300, .f32⟩
  | .hbm, ⟨18, _⟩ => ⟨S128x300, .f32⟩
  | .hbm, ⟨19, _⟩ => ⟨S128x1x1x300, .f32⟩
  | .hbm, ⟨20, _⟩ => ⟨S128x300, .f32⟩
  | .hbm, ⟨21, _⟩ => ⟨S128x1x1x300, .f32⟩
  | .hbm, ⟨22, _⟩ => ⟨S128x300, .f32⟩
  | .hbm, ⟨23, _⟩ => ⟨S768x300, .f32⟩
  | .hbm, ⟨24, _⟩ => ⟨S300x768, .f32⟩
  | .hbm, ⟨25, _⟩ => ⟨S_, .f32⟩
  | .hbm, ⟨26, _⟩ => ⟨S128, .f32⟩
  | .hbm, ⟨27, _⟩ => ⟨S768, .f32⟩
  | .hbm, ⟨28, _⟩ => ⟨S1x768, .f32⟩
  | .hbm, ⟨29, _⟩ => ⟨S32, .i32⟩
  | .hbm, ⟨30, _⟩ => ⟨S_, .f32⟩
  | .hbm, ⟨31, _⟩ => ⟨S64x3x96, .f32⟩
  | .hbm, ⟨32, _⟩ => ⟨S_, .i32⟩
  | .hbm, ⟨33, _⟩ => ⟨S1, .i32⟩
  | .hbm, ⟨34, _⟩ => ⟨S_, .i32⟩
  | .hbm, ⟨35, _⟩ => ⟨S1, .i32⟩
  | .hbm, ⟨36, _⟩ => ⟨S2, .i32⟩
  | .hbm, ⟨37, _⟩ => ⟨S64x3x96, .f32⟩
  | .hbm, ⟨38, _⟩ => ⟨S_, .i32⟩
  | .hbm, ⟨39, _⟩ => ⟨S32, .i32⟩
  | .hbm, ⟨40, _⟩ => ⟨S32, .i1⟩
  | .hbm, ⟨41, _⟩ => ⟨S32, .f32⟩
  | .hbm, ⟨42, _⟩ => ⟨S1x32, .f32⟩
  | .hbm, ⟨43, _⟩ => ⟨S64x32, .f32⟩
  | .hbm, ⟨44, _⟩ => ⟨S64x32, .f32⟩
  | .hbm, ⟨45, _⟩ => ⟨S_, .i32⟩
  | .hbm, ⟨46, _⟩ => ⟨S1, .i32⟩
  | .hbm, ⟨47, _⟩ => ⟨S_, .i32⟩
  | .hbm, ⟨48, _⟩ => ⟨S1, .i32⟩
  | .hbm, ⟨49, _⟩ => ⟨S2, .i32⟩
  | .hbm, ⟨50, _⟩ => ⟨S64x3x96, .f32⟩
  | .hbm, ⟨51, _⟩ => ⟨S_, .i32⟩
  | .hbm, ⟨52, _⟩ => ⟨S32, .i32⟩
  | .hbm, ⟨53, _⟩ => ⟨S32, .i1⟩
  | .hbm, ⟨54, _⟩ => ⟨S32, .f32⟩
  | .hbm, ⟨55, _⟩ => ⟨S1x32, .f32⟩
  | .hbm, ⟨56, _⟩ => ⟨S64x32, .f32⟩
  | .hbm, ⟨57, _⟩ => ⟨S64x32, .f32⟩
  | .hbm, ⟨58, _⟩ => ⟨S_, .i32⟩
  | .hbm, ⟨59, _⟩ => ⟨S1, .i32⟩
  | .hbm, ⟨60, _⟩ => ⟨S_, .i32⟩
  | .hbm, ⟨61, _⟩ => ⟨S1, .i32⟩
  | .hbm, ⟨62, _⟩ => ⟨S2, .i32⟩
  | .hbm, ⟨63, _⟩ => ⟨S64x3x96, .f32⟩
  | .hbm, ⟨64, _⟩ => ⟨S1024, .i32⟩
  | .hbm, ⟨65, _⟩ => ⟨S_, .i32⟩
  | .hbm, ⟨66, _⟩ => ⟨S1024, .i32⟩
  | .hbm, ⟨67, _⟩ => ⟨S1024, .i1⟩
  | .hbm, ⟨68, _⟩ => ⟨S1024, .f32⟩
  | .hbm, ⟨69, _⟩ => ⟨S1x1024, .f32⟩
  | .hbm, ⟨70, _⟩ => ⟨S64x1024, .f32⟩
  | .hbm, ⟨71, _⟩ => ⟨S64x1024, .f32⟩
  | .hbm, ⟨72, _⟩ => ⟨S_, .i32⟩
  | .hbm, ⟨73, _⟩ => ⟨S1024, .i32⟩
  | .hbm, ⟨74, _⟩ => ⟨S1024, .i1⟩
  | .hbm, ⟨75, _⟩ => ⟨S1024, .f32⟩
  | .hbm, ⟨76, _⟩ => ⟨S1x1024, .f32⟩
  | .hbm, ⟨77, _⟩ => ⟨S64x1024, .f32⟩
  | .hbm, ⟨78, _⟩ => ⟨S64x1024, .f32⟩
  | .hbm, ⟨79, _⟩ => ⟨S64x1x1024, .f32⟩
  | .hbm, ⟨80, _⟩ => ⟨S64x1x1024, .f32⟩
  | .hbm, ⟨81, _⟩ => ⟨S64x1x1024, .f32⟩
  | .hbm, ⟨82, _⟩ => ⟨S64x3x1024, .f32⟩
  | .hbm, ⟨83, _⟩ => ⟨S1x1, .f32⟩
  | .hbm, ⟨84, _⟩ => ⟨S64x1x99, .f32⟩
  | .hbm, ⟨85, _⟩ => ⟨S64x1x1, .f32⟩
  | .hbm, ⟨86, _⟩ => ⟨S64, .f32⟩
  | .hbm, ⟨87, _⟩ => ⟨S64x99, .f32⟩
  | .local _ .vmem, ⟨0, _⟩ => ⟨S1x32x300, .f32⟩
  | .local _ .vmem, ⟨1, _⟩ => ⟨S1x32x300, .f32⟩
  | .local _ .vmem, ⟨2, _⟩ => ⟨S1x1024x300, .f32⟩
  | .local _ .vmem, ⟨3, _⟩ => ⟨S1x1024x300, .f32⟩
  | .local _ .vmem, ⟨4, _⟩ => ⟨S300x768, .f32⟩
  | .local _ .vmem, ⟨5, _⟩ => ⟨S1x768, .f32⟩
  | .local _ .vmem, ⟨6, _⟩ => ⟨S1x3x96, .f32⟩
  | .local _ .vmem, ⟨7, _⟩ => ⟨S1x3x96, .f32⟩
  | .local _ .vmem, ⟨8, _⟩ => ⟨S1x3x1024, .f32⟩
  | .local _ .vmem, ⟨9, _⟩ => ⟨S1x3x1024, .f32⟩
  | .local _ .vmem, ⟨10, _⟩ => ⟨S1x99, .f32⟩
  | .local _ .vmem, ⟨11, _⟩ => ⟨S1x1, .f32⟩
  | .local _ .vmem, ⟨12, _⟩ => ⟨S1x1x99, .f32⟩
  | .local _ .vmem, ⟨13, _⟩ => ⟨S1x1x99, .f32⟩
  | .local _ .vmem, ⟨14, _⟩ => ⟨S1x1x1, .f32⟩
  | .local _ .vmem, ⟨15, _⟩ => ⟨S1x1x1, .f32⟩
  | _, _ => ⟨S64x32x300, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_cst : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_cst_0 : Ref sig .tc := ⟨.hbm, 30, rfl⟩
abbrev main_call0_v17 : Ref sig .tc := ⟨.hbm, 31, rfl⟩
abbrev main_call0_c : Ref sig .tc := ⟨.hbm, 32, rfl⟩
abbrev main_call0_v18 : Ref sig .tc := ⟨.hbm, 33, rfl⟩
abbrev main_call0_c_1 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_c_2 : Ref sig .tc := ⟨.hbm, 38, rfl⟩
abbrev main_call0_v22 : Ref sig .tc := ⟨.hbm, 39, rfl⟩
abbrev main_call0_v23 : Ref sig .tc := ⟨.hbm, 40, rfl⟩
abbrev main_call0_v24 : Ref sig .tc := ⟨.hbm, 41, rfl⟩
abbrev main_call0_v25 : Ref sig .tc := ⟨.hbm, 42, rfl⟩
abbrev main_call0_v26 : Ref sig .tc := ⟨.hbm, 43, rfl⟩
abbrev main_call0_v27 : Ref sig .tc := ⟨.hbm, 44, rfl⟩
abbrev main_call0_c_3 : Ref sig .tc := ⟨.hbm, 45, rfl⟩
abbrev main_call0_v28 : Ref sig .tc := ⟨.hbm, 46, rfl⟩
abbrev main_call0_c_4 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_c_5 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_v35 : Ref sig .tc := ⟨.hbm, 55, rfl⟩
abbrev main_call0_v36 : Ref sig .tc := ⟨.hbm, 56, rfl⟩
abbrev main_call0_v37 : Ref sig .tc := ⟨.hbm, 57, rfl⟩
abbrev main_call0_c_6 : Ref sig .tc := ⟨.hbm, 58, rfl⟩
abbrev main_call0_v38 : Ref sig .tc := ⟨.hbm, 59, rfl⟩
abbrev main_call0_c_7 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_c_8 : Ref sig .tc := ⟨.hbm, 65, rfl⟩
abbrev main_call0_v43 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_c_9 : Ref sig .tc := ⟨.hbm, 72, rfl⟩
abbrev main_call0_v49 : Ref sig .tc := ⟨.hbm, 73, rfl⟩
abbrev main_call0_v50 : Ref sig .tc := ⟨.hbm, 74, rfl⟩
abbrev main_call0_v51 : Ref sig .tc := ⟨.hbm, 75, rfl⟩
abbrev main_call0_v52 : Ref sig .tc := ⟨.hbm, 76, rfl⟩
abbrev main_call0_v53 : Ref sig .tc := ⟨.hbm, 77, rfl⟩
abbrev main_call0_v54 : Ref sig .tc := ⟨.hbm, 78, rfl⟩
abbrev main_call0_v55 : Ref sig .tc := ⟨.hbm, 79, rfl⟩
abbrev main_call0_v56 : Ref sig .tc := ⟨.hbm, 80, rfl⟩
abbrev main_call0_v57 : Ref sig .tc := ⟨.hbm, 81, rfl⟩
abbrev main_call0_v58 : Ref sig .tc := ⟨.hbm, 82, rfl⟩
abbrev main_call0_v59 : Ref sig .tc := ⟨.hbm, 83, rfl⟩
abbrev main_call0_v60_0 : Ref sig .tc := ⟨.hbm, 84, rfl⟩
abbrev main_call0_v60_1 : Ref sig .tc := ⟨.hbm, 85, rfl⟩
abbrev main_v0_0 : Ref sig .tc := ⟨.hbm, 86, rfl⟩
abbrev main_v0_1 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x300 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S300x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x3x96 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x99 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x99 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "far" => some ⊤
  | _ => none
-- ==== ReferenceIdeal.lean ====
abbrev S64x32x300 : Shape := ⟨3, ![64, 32, 300]⟩
abbrev S64x1024x300 : Shape := ⟨3, ![64, 1024, 300]⟩
abbrev S64x32 : Shape := ⟨2, ![64, 32]⟩
abbrev S64x1024 : Shape := ⟨2, ![64, 1024]⟩
abbrev S128x1x1x300 : Shape := ⟨4, ![128, 1, 1, 300]⟩
abbrev S128 : Shape := ⟨1, ![128]⟩
abbrev S128x1x2x300 : Shape := ⟨4, ![128, 1, 2, 300]⟩
abbrev S128x1x3x300 : Shape := ⟨4, ![128, 1, 3, 300]⟩
abbrev S1x99 : Shape := ⟨2, ![1, 99]⟩
abbrev S1 : Shape := ⟨1, ![1]⟩
abbrev S11 : Shape := ⟨1, ![11]⟩
abbrev S128x300 : Shape := ⟨2, ![128, 300]⟩
abbrev S64x32x128 : Shape := ⟨3, ![64, 32, 128]⟩
abbrev S1x1x128 : Shape := ⟨3, ![1, 1, 128]⟩
abbrev S_ : Shape := ⟨0, ![]⟩
abbrev S64x32x1 : Shape := ⟨3, ![64, 32, 1]⟩
abbrev S64x31x300 : Shape := ⟨3, ![64, 31, 300]⟩
abbrev S64x31x128 : Shape := ⟨3, ![64, 31, 128]⟩
abbrev S64x31 : Shape := ⟨2, ![64, 31]⟩
abbrev S64x31x1 : Shape := ⟨3, ![64, 31, 1]⟩
abbrev S64x30x300 : Shape := ⟨3, ![64, 30, 300]⟩
abbrev S64x30x128 : Shape := ⟨3, ![64, 30, 128]⟩
abbrev S64x30 : Shape := ⟨2, ![64, 30]⟩
abbrev S64x30x1 : Shape := ⟨3, ![64, 30, 1]⟩
abbrev S64x1024x128 : Shape := ⟨3, ![64, 1024, 128]⟩
abbrev S64x1024x1 : Shape := ⟨3, ![64, 1024, 1]⟩
abbrev S64x1023x300 : Shape := ⟨3, ![64, 1023, 300]⟩
abbrev S64x1023x128 : Shape := ⟨3, ![64, 1023, 128]⟩
abbrev S64x1023 : Shape := ⟨2, ![64, 1023]⟩
abbrev S64x1023x1 : Shape := ⟨3, ![64, 1023, 1]⟩
abbrev S64x1022x300 : Shape := ⟨3, ![64, 1022, 300]⟩
abbrev S64x1022x128 : Shape := ⟨3, ![64, 1022, 128]⟩
abbrev S64x1022 : Shape := ⟨2, ![64, 1022]⟩
abbrev S64x1022x1 : Shape := ⟨3, ![64, 1022, 1]⟩
abbrev S64x1x1024x1 : Shape := ⟨4, ![64, 1, 1024, 1]⟩
abbrev S64x1x1023x1 : Shape := ⟨4, ![64, 1, 1023, 1]⟩
abbrev S64x1x1022x1 : Shape := ⟨4, ![64, 1, 1022, 1]⟩
abbrev S1x1x1x11 : Shape := ⟨4, ![1, 1, 1, 11]⟩
abbrev S64x32x1024 : Shape := ⟨3, ![64, 32, 1024]⟩
abbrev S64x32x1024x1 : Shape := ⟨4, ![64, 32, 1024, 1]⟩
abbrev S64x32x1024x11 : Shape := ⟨4, ![64, 32, 1024, 11]⟩
abbrev S64x32x11 : Shape := ⟨3, ![64, 32, 11]⟩
abbrev S64x11 : Shape := ⟨2, ![64, 11]⟩
abbrev S64x32x1022 : Shape := ⟨3, ![64, 32, 1022]⟩
abbrev S64x32x1022x1 : Shape := ⟨4, ![64, 32, 1022, 1]⟩
abbrev S64x32x1022x11 : Shape := ⟨4, ![64, 32, 1022, 11]⟩
abbrev S64x32x1023 : Shape := ⟨3, ![64, 32, 1023]⟩
abbrev S64x32x1023x1 : Shape := ⟨4, ![64, 32, 1023, 1]⟩
abbrev S64x32x1023x11 : Shape := ⟨4, ![64, 32, 1023, 11]⟩
abbrev S64x31x1024 : Shape := ⟨3, ![64, 31, 1024]⟩
abbrev S64x31x1024x1 : Shape := ⟨4, ![64, 31, 1024, 1]⟩
abbrev S64x31x1024x11 : Shape := ⟨4, ![64, 31, 1024, 11]⟩
abbrev S64x31x11 : Shape := ⟨3, ![64, 31, 11]⟩
abbrev S64x30x1024 : Shape := ⟨3, ![64, 30, 1024]⟩
abbrev S64x30x1024x1 : Shape := ⟨4, ![64, 30, 1024, 1]⟩
abbrev S64x30x1024x11 : Shape := ⟨4, ![64, 30, 1024, 11]⟩
abbrev S64x30x11 : Shape := ⟨3, ![64, 30, 11]⟩
abbrev S64x31x1023 : Shape := ⟨3, ![64, 31, 1023]⟩
abbrev S64x31x1023x1 : Shape := ⟨4, ![64, 31, 1023, 1]⟩
abbrev S64x31x1023x11 : Shape := ⟨4, ![64, 31, 1023, 11]⟩
abbrev S64x31x1022 : Shape := ⟨3, ![64, 31, 1022]⟩
abbrev S64x31x1022x1 : Shape := ⟨4, ![64, 31, 1022, 1]⟩
abbrev S64x31x1022x11 : Shape := ⟨4, ![64, 31, 1022, 11]⟩
abbrev S64x30x1023 : Shape := ⟨3, ![64, 30, 1023]⟩
abbrev S64x30x1023x1 : Shape := ⟨4, ![64, 30, 1023, 1]⟩
abbrev S64x30x1023x11 : Shape := ⟨4, ![64, 30, 1023, 11]⟩
abbrev S64x30x1022 : Shape := ⟨3, ![64, 30, 1022]⟩
abbrev S64x30x1022x1 : Shape := ⟨4, ![64, 30, 1022, 1]⟩
abbrev S64x30x1022x11 : Shape := ⟨4, ![64, 30, 1022, 11]⟩
abbrev S64x99 : Shape := ⟨2, ![64, 99]⟩
abbrev S99x1 : Shape := ⟨2, ![99, 1]⟩
abbrev S64x1 : Shape := ⟨2, ![64, 1]⟩
abbrev S1x1 : Shape := ⟨2, ![1, 1]⟩
abbrev S64 : Shape := ⟨1, ![64]⟩

abbrev nBuf : Space → Nat
  | .hbm => 486
  | .vmem => 0
  | .smem => 0
  | _ => 0

abbrev hbmTy0_0 (i : Nat) : BufTy := match i % 128 with
  | 0 => ⟨S64x32x300, .f32⟩
  | 1 => ⟨S64x1024x300, .f32⟩
  | 2 => ⟨S64x32, .f32⟩
  | 3 => ⟨S64x1024, .f32⟩
  | 4 => ⟨S128x1x1x300, .f32⟩
  | 5 => ⟨S128, .f32⟩
  | 6 => ⟨S128x1x2x300, .f32⟩
  | 7 => ⟨S128, .f32⟩
  | 8 => ⟨S128x1x3x300, .f32⟩
  | 9 => ⟨S128, .f32⟩
  | 10 => ⟨S1x99, .f32⟩
  | 11 => ⟨S1, .f32⟩
  | 12 => ⟨S11, .f32⟩
  | 13 => ⟨S11, .f32⟩
  | 14 => ⟨S11, .f32⟩
  | 15 => ⟨S11, .f32⟩
  | 16 => ⟨S11, .f32⟩
  | 17 => ⟨S11, .f32⟩
  | 18 => ⟨S11, .f32⟩
  | 19 => ⟨S11, .f32⟩
  | 20 => ⟨S11, .f32⟩
  | 21 => ⟨S11, .f32⟩
  | 22 => ⟨S11, .f32⟩
  | 23 => ⟨S11, .f32⟩
  | 24 => ⟨S11, .f32⟩
  | 25 => ⟨S11, .f32⟩
  | 26 => ⟨S11, .f32⟩
  | 27 => ⟨S11, .f32⟩
  | 28 => ⟨S11, .f32⟩
  | 29 => ⟨S11, .f32⟩
  | 30 => ⟨S128x300, .f32⟩
  | 31 => ⟨S64x32x128, .f32⟩
  | 32 => ⟨S1x1x128, .f32⟩
  | 33 => ⟨S64x32x128, .f32⟩
  | 34 => ⟨S64x32x128, .f32⟩
  | 35 => ⟨S_, .f32⟩
  | 36 => ⟨S64x32x128, .f32⟩
  | 37 => ⟨S64x32x128, .f32⟩
  | 38 => ⟨S_, .f32⟩
  | 39 => ⟨S64x32x128, .f32⟩
  | 40 => ⟨S64x32x128, .f32⟩
  | 41 => ⟨S64x32x128, .f32⟩
  | 42 => ⟨S_, .f32⟩
  | 43 => ⟨S64x32, .f32⟩
  | 44 => ⟨S64x32x1, .f32⟩
  | 45 => ⟨S64x32x1, .f32⟩
  | 46 => ⟨S_, .f32⟩
  | 47 => ⟨S64x32x1, .f32⟩
  | 48 => ⟨S64x32x1, .f32⟩
  | 49 => ⟨S64x32x128, .f32⟩
  | 50 => ⟨S64x32x128, .f32⟩
  | 51 => ⟨S64x31x300, .f32⟩
  | 52 => ⟨S128x1x1x300, .f32⟩
  | 53 => ⟨S128x300, .f32⟩
  | 54 => ⟨S64x31x128, .f32⟩
  | 55 => ⟨S64x31x300, .f32⟩
  | 56 => ⟨S128x1x1x300, .f32⟩
  | 57 => ⟨S128x300, .f32⟩
  | 58 => ⟨S64x31x128, .f32⟩
  | 59 => ⟨S64x31x128, .f32⟩
  | 60 => ⟨S1x1x128, .f32⟩
  | 61 => ⟨S64x31x128, .f32⟩
  | 62 => ⟨S64x31x128, .f32⟩
  | 63 => ⟨S_, .f32⟩
  | 64 => ⟨S64x31x128, .f32⟩
  | 65 => ⟨S64x31x128, .f32⟩
  | 66 => ⟨S_, .f32⟩
  | 67 => ⟨S64x31x128, .f32⟩
  | 68 => ⟨S64x31x128, .f32⟩
  | 69 => ⟨S64x31x128, .f32⟩
  | 70 => ⟨S_, .f32⟩
  | 71 => ⟨S64x31, .f32⟩
  | 72 => ⟨S64x31x1, .f32⟩
  | 73 => ⟨S64x31x1, .f32⟩
  | 74 => ⟨S_, .f32⟩
  | 75 => ⟨S64x31x1, .f32⟩
  | 76 => ⟨S64x31x1, .f32⟩
  | 77 => ⟨S64x31x128, .f32⟩
  | 78 => ⟨S64x31x128, .f32⟩
  | 79 => ⟨S64x30x300, .f32⟩
  | 80 => ⟨S128x1x1x300, .f32⟩
  | 81 => ⟨S128x300, .f32⟩
  | 82 => ⟨S64x30x128, .f32⟩
  | 83 => ⟨S64x30x300, .f32⟩
  | 84 => ⟨S128x1x1x300, .f32⟩
  | 85 => ⟨S128x300, .f32⟩
  | 86 => ⟨S64x30x128, .f32⟩
  | 87 => ⟨S64x30x128, .f32⟩
  | 88 => ⟨S64x30x300, .f32⟩
  | 89 => ⟨S128x1x1x300, .f32⟩
  | 90 => ⟨S128x300, .f32⟩
  | 91 => ⟨S64x30x128, .f32⟩
  | 92 => ⟨S64x30x128, .f32⟩
  | 93 => ⟨S1x1x128, .f32⟩
  | 94 => ⟨S64x30x128, .f32⟩
  | 95 => ⟨S64x30x128, .f32⟩
  | 96 => ⟨S_, .f32⟩
  | 97 => ⟨S64x30x128, .f32⟩
  | 98 => ⟨S64x30x128, .f32⟩
  | 99 => ⟨S_, .f32⟩
  | 100 => ⟨S64x30x128, .f32⟩
  | 101 => ⟨S64x30x128, .f32⟩
  | 102 => ⟨S64x30x128, .f32⟩
  | 103 => ⟨S_, .f32⟩
  | 104 => ⟨S64x30, .f32⟩
  | 105 => ⟨S64x30x1, .f32⟩
  | 106 => ⟨S64x30x1, .f32⟩
  | 107 => ⟨S_, .f32⟩
  | 108 => ⟨S64x30x1, .f32⟩
  | 109 => ⟨S64x30x1, .f32⟩
  | 110 => ⟨S64x30x128, .f32⟩
  | 111 => ⟨S64x30x128, .f32⟩
  | 112 => ⟨S128x300, .f32⟩
  | 113 => ⟨S64x1024x128, .f32⟩
  | 114 => ⟨S1x1x128, .f32⟩
  | 115 => ⟨S64x1024x128, .f32⟩
  | 116 => ⟨S64x1024x128, .f32⟩
  | 117 => ⟨S_, .f32⟩
  | 118 => ⟨S64x1024x128, .f32⟩
  | 119 => ⟨S64x1024x128, .f32⟩
  | 120 => ⟨S_, .f32⟩
  | 121 => ⟨S64x1024x128, .f32⟩
  | 122 => ⟨S64x1024x128, .f32⟩
  | 123 => ⟨S64x1024x128, .f32⟩
  | 124 => ⟨S_, .f32⟩
  | 125 => ⟨S64x1024, .f32⟩
  | 126 => ⟨S64x1024x1, .f32⟩
  | 127 => ⟨S64x1024x1, .f32⟩
  | _ => ⟨S64x32x300, .f32⟩

abbrev hbmTy0_1 (i : Nat) : BufTy := match i % 128 with
  | 0 => ⟨S_, .f32⟩
  | 1 => ⟨S64x1024x1, .f32⟩
  | 2 => ⟨S64x1024x1, .f32⟩
  | 3 => ⟨S64x1024x128, .f32⟩
  | 4 => ⟨S64x1024x128, .f32⟩
  | 5 => ⟨S64x1023x300, .f32⟩
  | 6 => ⟨S128x1x1x300, .f32⟩
  | 7 => ⟨S128x300, .f32⟩
  | 8 => ⟨S64x1023x128, .f32⟩
  | 9 => ⟨S64x1023x300, .f32⟩
  | 10 => ⟨S128x1x1x300, .f32⟩
  | 11 => ⟨S128x300, .f32⟩
  | 12 => ⟨S64x1023x128, .f32⟩
  | 13 => ⟨S64x1023x128, .f32⟩
  | 14 => ⟨S1x1x128, .f32⟩
  | 15 => ⟨S64x1023x128, .f32⟩
  | 16 => ⟨S64x1023x128, .f32⟩
  | 17 => ⟨S_, .f32⟩
  | 18 => ⟨S64x1023x128, .f32⟩
  | 19 => ⟨S64x1023x128, .f32⟩
  | 20 => ⟨S_, .f32⟩
  | 21 => ⟨S64x1023x128, .f32⟩
  | 22 => ⟨S64x1023x128, .f32⟩
  | 23 => ⟨S64x1023x128, .f32⟩
  | 24 => ⟨S_, .f32⟩
  | 25 => ⟨S64x1023, .f32⟩
  | 26 => ⟨S64x1023x1, .f32⟩
  | 27 => ⟨S64x1023x1, .f32⟩
  | 28 => ⟨S_, .f32⟩
  | 29 => ⟨S64x1023x1, .f32⟩
  | 30 => ⟨S64x1023x1, .f32⟩
  | 31 => ⟨S64x1023x128, .f32⟩
  | 32 => ⟨S64x1023x128, .f32⟩
  | 33 => ⟨S64x1022x300, .f32⟩
  | 34 => ⟨S128x1x1x300, .f32⟩
  | 35 => ⟨S128x300, .f32⟩
  | 36 => ⟨S64x1022x128, .f32⟩
  | 37 => ⟨S64x1022x300, .f32⟩
  | 38 => ⟨S128x1x1x300, .f32⟩
  | 39 => ⟨S128x300, .f32⟩
  | 40 => ⟨S64x1022x128, .f32⟩
  | 41 => ⟨S64x1022x128, .f32⟩
  | 42 => ⟨S64x1022x300, .f32⟩
  | 43 => ⟨S128x1x1x300, .f32⟩
  | 44 => ⟨S128x300, .f32⟩
  | 45 => ⟨S64x1022x128, .f32⟩
  | 46 => ⟨S64x1022x128, .f32⟩
  | 47 => ⟨S1x1x128, .f32⟩
  | 48 => ⟨S64x1022x128, .f32⟩
  | 49 => ⟨S64x1022x128, .f32⟩
  | 50 => ⟨S_, .f32⟩
  | 51 => ⟨S64x1022x128, .f32⟩
  | 52 => ⟨S64x1022x128, .f32⟩
  | 53 => ⟨S_, .f32⟩
  | 54 => ⟨S64x1022x128, .f32⟩
  | 55 => ⟨S64x1022x128, .f32⟩
  | 56 => ⟨S64x1022x128, .f32⟩
  | 57 => ⟨S_, .f32⟩
  | 58 => ⟨S64x1022, .f32⟩
  | 59 => ⟨S64x1022x1, .f32⟩
  | 60 => ⟨S64x1022x1, .f32⟩
  | 61 => ⟨S_, .f32⟩
  | 62 => ⟨S64x1022x1, .f32⟩
  | 63 => ⟨S64x1022x1, .f32⟩
  | 64 => ⟨S64x1022x128, .f32⟩
  | 65 => ⟨S64x1022x128, .f32⟩
  | 66 => ⟨S64x32x1, .f32⟩
  | 67 => ⟨S64x1x1024x1, .f32⟩
  | 68 => ⟨S64x31x1, .f32⟩
  | 69 => ⟨S64x30x1, .f32⟩
  | 70 => ⟨S64x1x1023x1, .f32⟩
  | 71 => ⟨S64x1x1022x1, .f32⟩
  | 72 => ⟨S1x1x1x11, .f32⟩
  | 73 => ⟨S1x1x1x11, .f32⟩
  | 74 => ⟨S_, .f32⟩
  | 75 => ⟨S1x1x1x11, .f32⟩
  | 76 => ⟨S1x1x1x11, .f32⟩
  | 77 => ⟨S64x32x1024, .f32⟩
  | 78 => ⟨S64x32x1024x1, .f32⟩
  | 79 => ⟨S64x32x1024x11, .f32⟩
  | 80 => ⟨S64x32x1024x11, .f32⟩
  | 81 => ⟨S64x32x1024x11, .f32⟩
  | 82 => ⟨S64x32x1024x11, .f32⟩
  | 83 => ⟨S64x32x1024x11, .f32⟩
  | 84 => ⟨S1x1x1x11, .f32⟩
  | 85 => ⟨S64x32x1024x11, .f32⟩
  | 86 => ⟨S64x32x1024x11, .f32⟩
  | 87 => ⟨S_, .f32⟩
  | 88 => ⟨S64x32x1024x11, .f32⟩
  | 89 => ⟨S64x32x1024x11, .f32⟩
  | 90 => ⟨S64x32x1024x11, .f32⟩
  | 91 => ⟨S64x32x1024x11, .f32⟩
  | 92 => ⟨S64x32x1024x11, .f32⟩
  | 93 => ⟨S_, .f32⟩
  | 94 => ⟨S64x32x11, .f32⟩
  | 95 => ⟨S_, .f32⟩
  | 96 => ⟨S64x32x11, .f32⟩
  | 97 => ⟨S64x32x11, .f32⟩
  | 98 => ⟨S64x32x11, .f32⟩
  | 99 => ⟨S64x32x11, .f32⟩
  | 100 => ⟨S64x32x11, .f32⟩
  | 101 => ⟨S_, .f32⟩
  | 102 => ⟨S64x11, .f32⟩
  | 103 => ⟨S1x1x1x11, .f32⟩
  | 104 => ⟨S1x1x1x11, .f32⟩
  | 105 => ⟨S_, .f32⟩
  | 106 => ⟨S1x1x1x11, .f32⟩
  | 107 => ⟨S1x1x1x11, .f32⟩
  | 108 => ⟨S64x32x1022, .f32⟩
  | 109 => ⟨S64x32x1022x1, .f32⟩
  | 110 => ⟨S64x32x1022x11, .f32⟩
  | 111 => ⟨S64x32x1022x11, .f32⟩
  | 112 => ⟨S64x32x1022x11, .f32⟩
  | 113 => ⟨S64x32x1022x11, .f32⟩
  | 114 => ⟨S64x32x1022x11, .f32⟩
  | 115 => ⟨S1x1x1x11, .f32⟩
  | 116 => ⟨S64x32x1022x11, .f32⟩
  | 117 => ⟨S64x32x1022x11, .f32⟩
  | 118 => ⟨S_, .f32⟩
  | 119 => ⟨S64x32x1022x11, .f32⟩
  | 120 => ⟨S64x32x1022x11, .f32⟩
  | 121 => ⟨S64x32x1022x11, .f32⟩
  | 122 => ⟨S64x32x1022x11, .f32⟩
  | 123 => ⟨S64x32x1022x11, .f32⟩
  | 124 => ⟨S_, .f32⟩
  | 125 => ⟨S64x32x11, .f32⟩
  | 126 => ⟨S_, .f32⟩
  | 127 => ⟨S64x32x11, .f32⟩
  | _ => ⟨S64x32x300, .f32⟩

abbrev hbmTy0_2 (i : Nat) : BufTy := match i % 128 with
  | 0 => ⟨S64x32x11, .f32⟩
  | 1 => ⟨S64x32x11, .f32⟩
  | 2 => ⟨S64x32x11, .f32⟩
  | 3 => ⟨S64x32x11, .f32⟩
  | 4 => ⟨S_, .f32⟩
  | 5 => ⟨S64x11, .f32⟩
  | 6 => ⟨S1x1x1x11, .f32⟩
  | 7 => ⟨S1x1x1x11, .f32⟩
  | 8 => ⟨S_, .f32⟩
  | 9 => ⟨S1x1x1x11, .f32⟩
  | 10 => ⟨S1x1x1x11, .f32⟩
  | 11 => ⟨S64x32x1023, .f32⟩
  | 12 => ⟨S64x32x1023x1, .f32⟩
  | 13 => ⟨S64x32x1023x11, .f32⟩
  | 14 => ⟨S64x32x1023x11, .f32⟩
  | 15 => ⟨S64x32x1023x11, .f32⟩
  | 16 => ⟨S64x32x1023x11, .f32⟩
  | 17 => ⟨S64x32x1023x11, .f32⟩
  | 18 => ⟨S1x1x1x11, .f32⟩
  | 19 => ⟨S64x32x1023x11, .f32⟩
  | 20 => ⟨S64x32x1023x11, .f32⟩
  | 21 => ⟨S_, .f32⟩
  | 22 => ⟨S64x32x1023x11, .f32⟩
  | 23 => ⟨S64x32x1023x11, .f32⟩
  | 24 => ⟨S64x32x1023x11, .f32⟩
  | 25 => ⟨S64x32x1023x11, .f32⟩
  | 26 => ⟨S64x32x1023x11, .f32⟩
  | 27 => ⟨S_, .f32⟩
  | 28 => ⟨S64x32x11, .f32⟩
  | 29 => ⟨S_, .f32⟩
  | 30 => ⟨S64x32x11, .f32⟩
  | 31 => ⟨S64x32x11, .f32⟩
  | 32 => ⟨S64x32x11, .f32⟩
  | 33 => ⟨S64x32x11, .f32⟩
  | 34 => ⟨S64x32x11, .f32⟩
  | 35 => ⟨S_, .f32⟩
  | 36 => ⟨S64x11, .f32⟩
  | 37 => ⟨S1x1x1x11, .f32⟩
  | 38 => ⟨S1x1x1x11, .f32⟩
  | 39 => ⟨S_, .f32⟩
  | 40 => ⟨S1x1x1x11, .f32⟩
  | 41 => ⟨S1x1x1x11, .f32⟩
  | 42 => ⟨S64x31x1024, .f32⟩
  | 43 => ⟨S64x31x1024x1, .f32⟩
  | 44 => ⟨S64x31x1024x11, .f32⟩
  | 45 => ⟨S64x31x1024x11, .f32⟩
  | 46 => ⟨S64x31x1024x11, .f32⟩
  | 47 => ⟨S64x31x1024x11, .f32⟩
  | 48 => ⟨S64x31x1024x11, .f32⟩
  | 49 => ⟨S1x1x1x11, .f32⟩
  | 50 => ⟨S64x31x1024x11, .f32⟩
  | 51 => ⟨S64x31x1024x11, .f32⟩
  | 52 => ⟨S_, .f32⟩
  | 53 => ⟨S64x31x1024x11, .f32⟩
  | 54 => ⟨S64x31x1024x11, .f32⟩
  | 55 => ⟨S64x31x1024x11, .f32⟩
  | 56 => ⟨S64x31x1024x11, .f32⟩
  | 57 => ⟨S64x31x1024x11, .f32⟩
  | 58 => ⟨S_, .f32⟩
  | 59 => ⟨S64x31x11, .f32⟩
  | 60 => ⟨S_, .f32⟩
  | 61 => ⟨S64x31x11, .f32⟩
  | 62 => ⟨S64x31x11, .f32⟩
  | 63 => ⟨S64x31x11, .f32⟩
  | 64 => ⟨S64x31x11, .f32⟩
  | 65 => ⟨S64x31x11, .f32⟩
  | 66 => ⟨S_, .f32⟩
  | 67 => ⟨S64x11, .f32⟩
  | 68 => ⟨S1x1x1x11, .f32⟩
  | 69 => ⟨S1x1x1x11, .f32⟩
  | 70 => ⟨S_, .f32⟩
  | 71 => ⟨S1x1x1x11, .f32⟩
  | 72 => ⟨S1x1x1x11, .f32⟩
  | 73 => ⟨S64x30x1024, .f32⟩
  | 74 => ⟨S64x30x1024x1, .f32⟩
  | 75 => ⟨S64x30x1024x11, .f32⟩
  | 76 => ⟨S64x30x1024x11, .f32⟩
  | 77 => ⟨S64x30x1024x11, .f32⟩
  | 78 => ⟨S64x30x1024x11, .f32⟩
  | 79 => ⟨S64x30x1024x11, .f32⟩
  | 80 => ⟨S1x1x1x11, .f32⟩
  | 81 => ⟨S64x30x1024x11, .f32⟩
  | 82 => ⟨S64x30x1024x11, .f32⟩
  | 83 => ⟨S_, .f32⟩
  | 84 => ⟨S64x30x1024x11, .f32⟩
  | 85 => ⟨S64x30x1024x11, .f32⟩
  | 86 => ⟨S64x30x1024x11, .f32⟩
  | 87 => ⟨S64x30x1024x11, .f32⟩
  | 88 => ⟨S64x30x1024x11, .f32⟩
  | 89 => ⟨S_, .f32⟩
  | 90 => ⟨S64x30x11, .f32⟩
  | 91 => ⟨S_, .f32⟩
  | 92 => ⟨S64x30x11, .f32⟩
  | 93 => ⟨S64x30x11, .f32⟩
  | 94 => ⟨S64x30x11, .f32⟩
  | 95 => ⟨S64x30x11, .f32⟩
  | 96 => ⟨S64x30x11, .f32⟩
  | 97 => ⟨S_, .f32⟩
  | 98 => ⟨S64x11, .f32⟩
  | 99 => ⟨S1x1x1x11, .f32⟩
  | 100 => ⟨S1x1x1x11, .f32⟩
  | 101 => ⟨S_, .f32⟩
  | 102 => ⟨S1x1x1x11, .f32⟩
  | 103 => ⟨S1x1x1x11, .f32⟩
  | 104 => ⟨S64x31x1023, .f32⟩
  | 105 => ⟨S64x31x1023x1, .f32⟩
  | 106 => ⟨S64x31x1023x11, .f32⟩
  | 107 => ⟨S64x31x1023x11, .f32⟩
  | 108 => ⟨S64x31x1023x11, .f32⟩
  | 109 => ⟨S64x31x1023x11, .f32⟩
  | 110 => ⟨S64x31x1023x11, .f32⟩
  | 111 => ⟨S1x1x1x11, .f32⟩
  | 112 => ⟨S64x31x1023x11, .f32⟩
  | 113 => ⟨S64x31x1023x11, .f32⟩
  | 114 => ⟨S_, .f32⟩
  | 115 => ⟨S64x31x1023x11, .f32⟩
  | 116 => ⟨S64x31x1023x11, .f32⟩
  | 117 => ⟨S64x31x1023x11, .f32⟩
  | 118 => ⟨S64x31x1023x11, .f32⟩
  | 119 => ⟨S64x31x1023x11, .f32⟩
  | 120 => ⟨S_, .f32⟩
  | 121 => ⟨S64x31x11, .f32⟩
  | 122 => ⟨S_, .f32⟩
  | 123 => ⟨S64x31x11, .f32⟩
  | 124 => ⟨S64x31x11, .f32⟩
  | 125 => ⟨S64x31x11, .f32⟩
  | 126 => ⟨S64x31x11, .f32⟩
  | 127 => ⟨S64x31x11, .f32⟩
  | _ => ⟨S64x32x300, .f32⟩

abbrev hbmTy0_3 (i : Nat) : BufTy := match i % 128 with
  | 0 => ⟨S_, .f32⟩
  | 1 => ⟨S64x11, .f32⟩
  | 2 => ⟨S1x1x1x11, .f32⟩
  | 3 => ⟨S1x1x1x11, .f32⟩
  | 4 => ⟨S_, .f32⟩
  | 5 => ⟨S1x1x1x11, .f32⟩
  | 6 => ⟨S1x1x1x11, .f32⟩
  | 7 => ⟨S64x31x1022, .f32⟩
  | 8 => ⟨S64x31x1022x1, .f32⟩
  | 9 => ⟨S64x31x1022x11, .f32⟩
  | 10 => ⟨S64x31x1022x11, .f32⟩
  | 11 => ⟨S64x31x1022x11, .f32⟩
  | 12 => ⟨S64x31x1022x11, .f32⟩
  | 13 => ⟨S64x31x1022x11, .f32⟩
  | 14 => ⟨S1x1x1x11, .f32⟩
  | 15 => ⟨S64x31x1022x11, .f32⟩
  | 16 => ⟨S64x31x1022x11, .f32⟩
  | 17 => ⟨S_, .f32⟩
  | 18 => ⟨S64x31x1022x11, .f32⟩
  | 19 => ⟨S64x31x1022x11, .f32⟩
  | 20 => ⟨S64x31x1022x11, .f32⟩
  | 21 => ⟨S64x31x1022x11, .f32⟩
  | 22 => ⟨S64x31x1022x11, .f32⟩
  | 23 => ⟨S_, .f32⟩
  | 24 => ⟨S64x31x11, .f32⟩
  | 25 => ⟨S_, .f32⟩
  | 26 => ⟨S64x31x11, .f32⟩
  | 27 => ⟨S64x31x11, .f32⟩
  | 28 => ⟨S64x31x11, .f32⟩
  | 29 => ⟨S64x31x11, .f32⟩
  | 30 => ⟨S64x31x11, .f32⟩
  | 31 => ⟨S_, .f32⟩
  | 32 => ⟨S64x11, .f32⟩
  | 33 => ⟨S1x1x1x11, .f32⟩
  | 34 => ⟨S1x1x1x11, .f32⟩
  | 35 => ⟨S_, .f32⟩
  | 36 => ⟨S1x1x1x11, .f32⟩
  | 37 => ⟨S1x1x1x11, .f32⟩
  | 38 => ⟨S64x30x1023, .f32⟩
  | 39 => ⟨S64x30x1023x1, .f32⟩
  | 40 => ⟨S64x30x1023x11, .f32⟩
  | 41 => ⟨S64x30x1023x11, .f32⟩
  | 42 => ⟨S64x30x1023x11, .f32⟩
  | 43 => ⟨S64x30x1023x11, .f32⟩
  | 44 => ⟨S64x30x1023x11, .f32⟩
  | 45 => ⟨S1x1x1x11, .f32⟩
  | 46 => ⟨S64x30x1023x11, .f32⟩
  | 47 => ⟨S64x30x1023x11, .f32⟩
  | 48 => ⟨S_, .f32⟩
  | 49 => ⟨S64x30x1023x11, .f32⟩
  | 50 => ⟨S64x30x1023x11, .f32⟩
  | 51 => ⟨S64x30x1023x11, .f32⟩
  | 52 => ⟨S64x30x1023x11, .f32⟩
  | 53 => ⟨S64x30x1023x11, .f32⟩
  | 54 => ⟨S_, .f32⟩
  | 55 => ⟨S64x30x11, .f32⟩
  | 56 => ⟨S_, .f32⟩
  | 57 => ⟨S64x30x11, .f32⟩
  | 58 => ⟨S64x30x11, .f32⟩
  | 59 => ⟨S64x30x11, .f32⟩
  | 60 => ⟨S64x30x11, .f32⟩
  | 61 => ⟨S64x30x11, .f32⟩
  | 62 => ⟨S_, .f32⟩
  | 63 => ⟨S64x11, .f32⟩
  | 64 => ⟨S1x1x1x11, .f32⟩
  | 65 => ⟨S1x1x1x11, .f32⟩
  | 66 => ⟨S_, .f32⟩
  | 67 => ⟨S1x1x1x11, .f32⟩
  | 68 => ⟨S1x1x1x11, .f32⟩
  | 69 => ⟨S64x30x1022, .f32⟩
  | 70 => ⟨S64x30x1022x1, .f32⟩
  | 71 => ⟨S64x30x1022x11, .f32⟩
  | 72 => ⟨S64x30x1022x11, .f32⟩
  | 73 => ⟨S64x30x1022x11, .f32⟩
  | 74 => ⟨S64x30x1022x11, .f32⟩
  | 75 => ⟨S64x30x1022x11, .f32⟩
  | 76 => ⟨S1x1x1x11, .f32⟩
  | 77 => ⟨S64x30x1022x11, .f32⟩
  | 78 => ⟨S64x30x1022x11, .f32⟩
  | 79 => ⟨S_, .f32⟩
  | 80 => ⟨S64x30x1022x11, .f32⟩
  | 81 => ⟨S64x30x1022x11, .f32⟩
  | 82 => ⟨S64x30x1022x11, .f32⟩
  | 83 => ⟨S64x30x1022x11, .f32⟩
  | 84 => ⟨S64x30x1022x11, .f32⟩
  | 85 => ⟨S_, .f32⟩
  | 86 => ⟨S64x30x11, .f32⟩
  | 87 => ⟨S_, .f32⟩
  | 88 => ⟨S64x30x11, .f32⟩
  | 89 => ⟨S64x30x11, .f32⟩
  | 90 => ⟨S64x30x11, .f32⟩
  | 91 => ⟨S64x30x11, .f32⟩
  | 92 => ⟨S64x30x11, .f32⟩
  | 93 => ⟨S_, .f32⟩
  | 94 => ⟨S64x11, .f32⟩
  | 95 => ⟨S64x99, .f32⟩
  | 96 => ⟨S99x1, .f32⟩
  | 97 => ⟨S64x1, .f32⟩
  | 98 => ⟨S1x1, .f32⟩
  | 99 => ⟨S64x1, .f32⟩
  | 100 => ⟨S64x1, .f32⟩
  | 101 => ⟨S64, .f32⟩
  | _ => ⟨S64x32x300, .f32⟩

abbrev hbmTy (i : Nat) : BufTy := match i / 128 with
  | 0 => hbmTy0_0 i
  | 1 => hbmTy0_1 i
  | 2 => hbmTy0_2 i
  | 3 => hbmTy0_3 i
  | _ => ⟨S64x32x300, .f32⟩

abbrev bufTy : (tb : Table) → Fin (tcTables nBuf tb) → BufTy
  | .hbm, ⟨i, _⟩ => hbmTy i
  | _, _ => ⟨S64x32x300, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_cst_0 : Ref sig .tc := ⟨.hbm, 13, rfl⟩
abbrev main_cst_1 : Ref sig .tc := ⟨.hbm, 14, rfl⟩
abbrev main_cst_2 : Ref sig .tc := ⟨.hbm, 15, rfl⟩
abbrev main_cst_3 : Ref sig .tc := ⟨.hbm, 16, rfl⟩
abbrev main_cst_4 : Ref sig .tc := ⟨.hbm, 17, rfl⟩
abbrev main_cst_5 : Ref sig .tc := ⟨.hbm, 18, rfl⟩
abbrev main_cst_6 : Ref sig .tc := ⟨.hbm, 19, rfl⟩
abbrev main_cst_7 : Ref sig .tc := ⟨.hbm, 20, rfl⟩
abbrev main_cst_8 : Ref sig .tc := ⟨.hbm, 21, rfl⟩
abbrev main_cst_9 : Ref sig .tc := ⟨.hbm, 22, rfl⟩
abbrev main_cst_10 : Ref sig .tc := ⟨.hbm, 23, rfl⟩
abbrev main_cst_11 : Ref sig .tc := ⟨.hbm, 24, rfl⟩
abbrev main_cst_12 : Ref sig .tc := ⟨.hbm, 25, rfl⟩
abbrev main_cst_13 : Ref sig .tc := ⟨.hbm, 26, rfl⟩
abbrev main_cst_14 : Ref sig .tc := ⟨.hbm, 27, rfl⟩
abbrev main_cst_15 : Ref sig .tc := ⟨.hbm, 28, rfl⟩
abbrev main_cst_16 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_17 : Ref sig .tc := ⟨.hbm, 35, rfl⟩
abbrev main_v5 : Ref sig .tc := ⟨.hbm, 36, rfl⟩
abbrev main_v6 : Ref sig .tc := ⟨.hbm, 37, rfl⟩
abbrev main_cst_18 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_19 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_cst_20 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_21 : Ref sig .tc := ⟨.hbm, 63, rfl⟩
abbrev main_v29 : Ref sig .tc := ⟨.hbm, 64, rfl⟩
abbrev main_v30 : Ref sig .tc := ⟨.hbm, 65, rfl⟩
abbrev main_cst_22 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_23 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_cst_24 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_25 : Ref sig .tc := ⟨.hbm, 96, rfl⟩
abbrev main_v58 : Ref sig .tc := ⟨.hbm, 97, rfl⟩
abbrev main_v59 : Ref sig .tc := ⟨.hbm, 98, rfl⟩
abbrev main_cst_26 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_27 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_28 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_cst_29 : Ref sig .tc := ⟨.hbm, 117, rfl⟩
abbrev main_v75 : Ref sig .tc := ⟨.hbm, 118, rfl⟩
abbrev main_v76 : Ref sig .tc := ⟨.hbm, 119, rfl⟩
abbrev main_cst_30 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_31 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_cst_32 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_cst_33 : Ref sig .tc := ⟨.hbm, 145, rfl⟩
abbrev main_v99 : Ref sig .tc := ⟨.hbm, 146, rfl⟩
abbrev main_v100 : Ref sig .tc := ⟨.hbm, 147, rfl⟩
abbrev main_cst_34 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_cst_35 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_36 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_cst_37 : Ref sig .tc := ⟨.hbm, 178, rfl⟩
abbrev main_v128 : Ref sig .tc := ⟨.hbm, 179, rfl⟩
abbrev main_v129 : Ref sig .tc := ⟨.hbm, 180, rfl⟩
abbrev main_cst_38 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_39 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_cst_40 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_41 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_cst_42 : Ref sig .tc := ⟨.hbm, 215, rfl⟩
abbrev main_v160 : Ref sig .tc := ⟨.hbm, 216, rfl⟩
abbrev main_v161 : Ref sig .tc := ⟨.hbm, 217, rfl⟩
abbrev main_v162 : Ref sig .tc := ⟨.hbm, 218, rfl⟩
abbrev main_v163 : Ref sig .tc := ⟨.hbm, 219, rfl⟩
abbrev main_v164 : Ref sig .tc := ⟨.hbm, 220, rfl⟩
abbrev main_cst_43 : Ref sig .tc := ⟨.hbm, 221, rfl⟩
abbrev main_v165 : Ref sig .tc := ⟨.hbm, 222, rfl⟩
abbrev main_cst_44 : Ref sig .tc := ⟨.hbm, 223, rfl⟩
abbrev main_v166 : Ref sig .tc := ⟨.hbm, 224, rfl⟩
abbrev main_v167 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_cst_45 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_cst_46 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_cst_47 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_cst_48 : Ref sig .tc := ⟨.hbm, 252, rfl⟩
abbrev main_v191 : Ref sig .tc := ⟨.hbm, 253, rfl⟩
abbrev main_cst_49 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_cst_50 : Ref sig .tc := ⟨.hbm, 260, rfl⟩
abbrev main_v197 : Ref sig .tc := ⟨.hbm, 261, rfl⟩
abbrev main_v198 : Ref sig .tc := ⟨.hbm, 262, rfl⟩
abbrev main_v199 : Ref sig .tc := ⟨.hbm, 263, rfl⟩
abbrev main_cst_51 : Ref sig .tc := ⟨.hbm, 264, rfl⟩
abbrev main_v200 : Ref sig .tc := ⟨.hbm, 265, rfl⟩
abbrev main_v201 : Ref sig .tc := ⟨.hbm, 266, rfl⟩
abbrev main_v202 : Ref sig .tc := ⟨.hbm, 267, rfl⟩
abbrev main_v203 : Ref sig .tc := ⟨.hbm, 268, rfl⟩
abbrev main_v204 : Ref sig .tc := ⟨.hbm, 269, rfl⟩
abbrev main_v205 : Ref sig .tc := ⟨.hbm, 270, rfl⟩
abbrev main_v206 : Ref sig .tc := ⟨.hbm, 271, rfl⟩
abbrev main_v207 : Ref sig .tc := ⟨.hbm, 272, rfl⟩
abbrev main_v208 : Ref sig .tc := ⟨.hbm, 273, rfl⟩
abbrev main_v209 : Ref sig .tc := ⟨.hbm, 274, rfl⟩
abbrev main_v210 : Ref sig .tc := ⟨.hbm, 275, rfl⟩
abbrev main_v211 : Ref sig .tc := ⟨.hbm, 276, rfl⟩
abbrev main_cst_52 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_v215 : Ref sig .tc := ⟨.hbm, 281, rfl⟩
abbrev main_v216 : Ref sig .tc := ⟨.hbm, 282, rfl⟩
abbrev main_cst_53 : Ref sig .tc := ⟨.hbm, 283, rfl⟩
abbrev main_v217 : Ref sig .tc := ⟨.hbm, 284, rfl⟩
abbrev main_cst_54 : Ref sig .tc := ⟨.hbm, 285, rfl⟩
abbrev main_v218 : Ref sig .tc := ⟨.hbm, 286, rfl⟩
abbrev main_v219 : Ref sig .tc := ⟨.hbm, 287, rfl⟩
abbrev main_v220 : Ref sig .tc := ⟨.hbm, 288, rfl⟩
abbrev main_v221 : Ref sig .tc := ⟨.hbm, 289, rfl⟩
abbrev main_v222 : Ref sig .tc := ⟨.hbm, 290, rfl⟩
abbrev main_cst_55 : Ref sig .tc := ⟨.hbm, 291, rfl⟩
abbrev main_v223 : Ref sig .tc := ⟨.hbm, 292, rfl⟩
abbrev main_v224 : Ref sig .tc := ⟨.hbm, 293, rfl⟩
abbrev main_v225 : Ref sig .tc := ⟨.hbm, 294, rfl⟩
abbrev main_cst_56 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_cst_57 : Ref sig .tc := ⟨.hbm, 308, rfl⟩
abbrev main_v238 : Ref sig .tc := ⟨.hbm, 309, rfl⟩
abbrev main_v239 : Ref sig .tc := ⟨.hbm, 310, rfl⟩
abbrev main_v240 : Ref sig .tc := ⟨.hbm, 311, rfl⟩
abbrev main_v241 : Ref sig .tc := ⟨.hbm, 312, rfl⟩
abbrev main_v242 : Ref sig .tc := ⟨.hbm, 313, rfl⟩
abbrev main_cst_58 : Ref sig .tc := ⟨.hbm, 314, rfl⟩
abbrev main_v243 : Ref sig .tc := ⟨.hbm, 315, rfl⟩
abbrev main_cst_59 : Ref sig .tc := ⟨.hbm, 316, rfl⟩
abbrev main_v244 : Ref sig .tc := ⟨.hbm, 317, rfl⟩
abbrev main_v245 : Ref sig .tc := ⟨.hbm, 318, rfl⟩
abbrev main_v246 : Ref sig .tc := ⟨.hbm, 319, rfl⟩
abbrev main_v247 : Ref sig .tc := ⟨.hbm, 320, rfl⟩
abbrev main_v248 : Ref sig .tc := ⟨.hbm, 321, rfl⟩
abbrev main_cst_60 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_cst_61 : Ref sig .tc := ⟨.hbm, 326, rfl⟩
abbrev main_v252 : Ref sig .tc := ⟨.hbm, 327, rfl⟩
abbrev main_v253 : Ref sig .tc := ⟨.hbm, 328, rfl⟩
abbrev main_v254 : Ref sig .tc := ⟨.hbm, 329, rfl⟩
abbrev main_v255 : Ref sig .tc := ⟨.hbm, 330, rfl⟩
abbrev main_v256 : Ref sig .tc := ⟨.hbm, 331, rfl⟩
abbrev main_v257 : Ref sig .tc := ⟨.hbm, 332, rfl⟩
abbrev main_v258 : Ref sig .tc := ⟨.hbm, 333, rfl⟩
abbrev main_v259 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_cst_62 : Ref sig .tc := ⟨.hbm, 339, rfl⟩
abbrev main_v264 : Ref sig .tc := ⟨.hbm, 340, rfl⟩
abbrev main_v265 : Ref sig .tc := ⟨.hbm, 341, rfl⟩
abbrev main_v266 : Ref sig .tc := ⟨.hbm, 342, rfl⟩
abbrev main_v267 : Ref sig .tc := ⟨.hbm, 343, rfl⟩
abbrev main_v268 : Ref sig .tc := ⟨.hbm, 344, rfl⟩
abbrev main_cst_63 : Ref sig .tc := ⟨.hbm, 345, rfl⟩
abbrev main_v269 : Ref sig .tc := ⟨.hbm, 346, rfl⟩
abbrev main_cst_64 : Ref sig .tc := ⟨.hbm, 347, rfl⟩
abbrev main_v270 : Ref sig .tc := ⟨.hbm, 348, rfl⟩
abbrev main_v271 : Ref sig .tc := ⟨.hbm, 349, rfl⟩
abbrev main_v272 : Ref sig .tc := ⟨.hbm, 350, rfl⟩
abbrev main_v273 : Ref sig .tc := ⟨.hbm, 351, rfl⟩
abbrev main_v274 : Ref sig .tc := ⟨.hbm, 352, rfl⟩
abbrev main_cst_65 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_cst_66 : Ref sig .tc := ⟨.hbm, 357, rfl⟩
abbrev main_v278 : Ref sig .tc := ⟨.hbm, 358, rfl⟩
abbrev main_v279 : Ref sig .tc := ⟨.hbm, 359, rfl⟩
abbrev main_v280 : Ref sig .tc := ⟨.hbm, 360, rfl⟩
abbrev main_v281 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_v286 : Ref sig .tc := ⟨.hbm, 366, rfl⟩
abbrev main_v287 : Ref sig .tc := ⟨.hbm, 367, rfl⟩
abbrev main_v288 : Ref sig .tc := ⟨.hbm, 368, rfl⟩
abbrev main_v289 : Ref sig .tc := ⟨.hbm, 369, rfl⟩
abbrev main_cst_67 : Ref sig .tc := ⟨.hbm, 370, rfl⟩
abbrev main_v290 : Ref sig .tc := ⟨.hbm, 371, rfl⟩
abbrev main_v291 : Ref sig .tc := ⟨.hbm, 372, rfl⟩
abbrev main_v292 : Ref sig .tc := ⟨.hbm, 373, rfl⟩
abbrev main_v293 : Ref sig .tc := ⟨.hbm, 374, rfl⟩
abbrev main_v294 : Ref sig .tc := ⟨.hbm, 375, rfl⟩
abbrev main_cst_68 : Ref sig .tc := ⟨.hbm, 376, rfl⟩
abbrev main_v295 : Ref sig .tc := ⟨.hbm, 377, rfl⟩
abbrev main_cst_69 : Ref sig .tc := ⟨.hbm, 378, rfl⟩
abbrev main_v296 : Ref sig .tc := ⟨.hbm, 379, rfl⟩
abbrev main_v297 : Ref sig .tc := ⟨.hbm, 380, rfl⟩
abbrev main_v298 : Ref sig .tc := ⟨.hbm, 381, rfl⟩
abbrev main_v299 : Ref sig .tc := ⟨.hbm, 382, rfl⟩
abbrev main_v300 : Ref sig .tc := ⟨.hbm, 383, rfl⟩
abbrev main_cst_70 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_cst_71 : Ref sig .tc := ⟨.hbm, 388, rfl⟩
abbrev main_v304 : Ref sig .tc := ⟨.hbm, 389, rfl⟩
abbrev main_v305 : Ref sig .tc := ⟨.hbm, 390, rfl⟩
abbrev main_v306 : Ref sig .tc := ⟨.hbm, 391, rfl⟩
abbrev main_v307 : Ref sig .tc := ⟨.hbm, 392, rfl⟩
abbrev main_v308 : Ref sig .tc := ⟨.hbm, 393, rfl⟩
abbrev main_v309 : Ref sig .tc := ⟨.hbm, 394, rfl⟩
abbrev main_v310 : Ref sig .tc := ⟨.hbm, 395, rfl⟩
abbrev main_v311 : Ref sig .tc := ⟨.hbm, 396, rfl⟩
abbrev main_v312 : Ref sig .tc := ⟨.hbm, 397, rfl⟩
abbrev main_v313 : Ref sig .tc := ⟨.hbm, 398, rfl⟩
abbrev main_v314 : Ref sig .tc := ⟨.hbm, 399, rfl⟩
abbrev main_v315 : Ref sig .tc := ⟨.hbm, 400, rfl⟩
abbrev main_cst_72 : Ref sig .tc := ⟨.hbm, 401, rfl⟩
abbrev main_v316 : Ref sig .tc := ⟨.hbm, 402, rfl⟩
abbrev main_v317 : Ref sig .tc := ⟨.hbm, 403, rfl⟩
abbrev main_v318 : Ref sig .tc := ⟨.hbm, 404, rfl⟩
abbrev main_v319 : Ref sig .tc := ⟨.hbm, 405, rfl⟩
abbrev main_v320 : Ref sig .tc := ⟨.hbm, 406, rfl⟩
abbrev main_cst_73 : Ref sig .tc := ⟨.hbm, 407, rfl⟩
abbrev main_v321 : Ref sig .tc := ⟨.hbm, 408, rfl⟩
abbrev main_cst_74 : Ref sig .tc := ⟨.hbm, 409, rfl⟩
abbrev main_v322 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_v326 : Ref sig .tc := ⟨.hbm, 414, rfl⟩
abbrev main_cst_75 : Ref sig .tc := ⟨.hbm, 415, rfl⟩
abbrev main_v327 : Ref sig .tc := ⟨.hbm, 416, rfl⟩
abbrev main_v328 : Ref sig .tc := ⟨.hbm, 417, rfl⟩
abbrev main_v329 : Ref sig .tc := ⟨.hbm, 418, rfl⟩
abbrev main_cst_76 : Ref sig .tc := ⟨.hbm, 419, rfl⟩
abbrev main_v330 : Ref sig .tc := ⟨.hbm, 420, rfl⟩
abbrev main_v331 : Ref sig .tc := ⟨.hbm, 421, rfl⟩
abbrev main_v332 : Ref sig .tc := ⟨.hbm, 422, rfl⟩
abbrev main_v333 : Ref sig .tc := ⟨.hbm, 423, rfl⟩
abbrev main_v334 : Ref sig .tc := ⟨.hbm, 424, rfl⟩
abbrev main_v335 : Ref sig .tc := ⟨.hbm, 425, rfl⟩
abbrev main_v336 : Ref sig .tc := ⟨.hbm, 426, rfl⟩
abbrev main_v337 : Ref sig .tc := ⟨.hbm, 427, rfl⟩
abbrev main_v338 : Ref sig .tc := ⟨.hbm, 428, rfl⟩
abbrev main_v339 : Ref sig .tc := ⟨.hbm, 429, rfl⟩
abbrev main_v340 : Ref sig .tc := ⟨.hbm, 430, rfl⟩
abbrev main_v341 : Ref sig .tc := ⟨.hbm, 431, rfl⟩
abbrev main_cst_77 : Ref sig .tc := ⟨.hbm, 432, rfl⟩
abbrev main_v342 : Ref sig .tc := ⟨.hbm, 433, rfl⟩
abbrev main_v343 : Ref sig .tc := ⟨.hbm, 434, rfl⟩
abbrev main_v344 : Ref sig .tc := ⟨.hbm, 435, rfl⟩
abbrev main_v345 : Ref sig .tc := ⟨.hbm, 436, rfl⟩
abbrev main_v346 : Ref sig .tc := ⟨.hbm, 437, rfl⟩
abbrev main_cst_78 : Ref sig .tc := ⟨.hbm, 438, rfl⟩
abbrev main_v347 : Ref sig .tc := ⟨.hbm, 439, rfl⟩
abbrev main_cst_79 : Ref sig .tc := ⟨.hbm, 440, rfl⟩
abbrev main_v348 : Ref sig .tc := ⟨.hbm, 441, rfl⟩
abbrev main_v349 : Ref sig .tc := ⟨.hbm, 442, rfl⟩
abbrev main_v350 : Ref sig .tc := ⟨.hbm, 443, rfl⟩
abbrev main_v351 : Ref sig .tc := ⟨.hbm, 444, rfl⟩
abbrev main_v352 : Ref sig .tc := ⟨.hbm, 445, rfl⟩
abbrev main_cst_80 : Ref sig .tc := ⟨.hbm, 446, rfl⟩
abbrev main_v353 : Ref sig .tc := ⟨.hbm, 447, rfl⟩
abbrev main_v354 : Ref sig .tc := ⟨.hbm, 448, rfl⟩
abbrev main_v355 : Ref sig .tc := ⟨.hbm, 449, rfl⟩
abbrev main_cst_81 : Ref sig .tc := ⟨.hbm, 450, rfl⟩
abbrev main_v356 : Ref sig .tc := ⟨.hbm, 451, rfl⟩
abbrev main_v357 : Ref sig .tc := ⟨.hbm, 452, rfl⟩
abbrev main_v358 : Ref sig .tc := ⟨.hbm, 453, rfl⟩
abbrev main_v359 : Ref sig .tc := ⟨.hbm, 454, rfl⟩
abbrev main_v360 : Ref sig .tc := ⟨.hbm, 455, rfl⟩
abbrev main_v361 : Ref sig .tc := ⟨.hbm, 456, rfl⟩
abbrev main_v362 : Ref sig .tc := ⟨.hbm, 457, rfl⟩
abbrev main_v363 : Ref sig .tc := ⟨.hbm, 458, rfl⟩
abbrev main_v364 : Ref sig .tc := ⟨.hbm, 459, rfl⟩
abbrev main_v365 : Ref sig .tc := ⟨.hbm, 460, rfl⟩
abbrev main_v366 : Ref sig .tc := ⟨.hbm, 461, rfl⟩
abbrev main_v367 : Ref sig .tc := ⟨.hbm, 462, rfl⟩
abbrev main_cst_82 : Ref sig .tc := ⟨.hbm, 463, rfl⟩
abbrev main_v368 : Ref sig .tc := ⟨.hbm, 464, rfl⟩
abbrev main_v369 : Ref sig .tc := ⟨.hbm, 465, rfl⟩
abbrev main_v370 : Ref sig .tc := ⟨.hbm, 466, rfl⟩
abbrev main_v371 : Ref sig .tc := ⟨.hbm, 467, rfl⟩
abbrev main_v372 : Ref sig .tc := ⟨.hbm, 468, rfl⟩
abbrev main_cst_83 : Ref sig .tc := ⟨.hbm, 469, rfl⟩
abbrev main_v373 : Ref sig .tc := ⟨.hbm, 470, rfl⟩
abbrev main_cst_84 : Ref sig .tc := ⟨.hbm, 471, rfl⟩
abbrev main_v374 : Ref sig .tc := ⟨.hbm, 472, rfl⟩
abbrev main_v375 : Ref sig .tc := ⟨.hbm, 473, rfl⟩
abbrev main_v376 : Ref sig .tc := ⟨.hbm, 474, rfl⟩
abbrev main_v377 : Ref sig .tc := ⟨.hbm, 475, rfl⟩
abbrev main_v378 : Ref sig .tc := ⟨.hbm, 476, rfl⟩
abbrev main_cst_85 : Ref sig .tc := ⟨.hbm, 477, rfl⟩
abbrev main_v379 : Ref sig .tc := ⟨.hbm, 478, rfl⟩
abbrev main_v380 : Ref sig .tc := ⟨.hbm, 479, rfl⟩
abbrev main_v381 : Ref sig .tc := ⟨.hbm, 480, rfl⟩
abbrev main_v382 : Ref sig .tc := ⟨.hbm, 481, rfl⟩
abbrev main_v383 : Ref sig .tc := ⟨.hbm, 482, rfl⟩
abbrev main_v384 : Ref sig .tc := ⟨.hbm, 483, rfl⟩
abbrev main_v385 : Ref sig .tc := ⟨.hbm, 484, rfl⟩
abbrev main_v386 : Ref sig .tc := ⟨.hbm, 485, rfl⟩

abbrev nD : Nat := 1
abbrev τ : Topo := Topo.v7x

variable {F : FTy → Type} [FloatOps F]
-- ==== Proof.Spec.lean ====
/-
  The mathematics both programs compute, over extended reals: relu-normalised n-gram rows, Gaussian kernel pooling of
  the cosine similarities, the pooled feature of one pair of n-gram widths.
-/
module

public import Idealize.ShloMosaic.Lib.Pointwise

@[expose] public section

noncomputable section

namespace Cert.Ngram

open Idealize.ShloMosaic

/-- The constant added after the relu, `1e-9` as a 32-bit float. -/
def eps : EReal := Ideal.ofBits .f32 0x3089705F#32

/-- The floor of a norm and of a pooled sum, `1e-10` as a 32-bit float. -/
def floor : EReal := Ideal.ofBits .f32 0x2EDBE6FF#32

/-- A filter response after the relu and the added constant. -/
def act (x : EReal) : EReal := max x 0 + eps

/-- One row of n-gram responses, activated and divided by its floored Euclidean norm. -/
def unitRow (f : Fin 128 → EReal) (o : Fin 128) : EReal :=
  Ideal.div (act (f o)) (max (Ideal.sqrt (∑ c : Fin 128, act (f c) * act (f c))) floor)

/-- The centre of each of the eleven Gaussian kernels, as a 32-bit float pattern. -/
def muBits : Fin 11 → BitVec 32 :=
  ![0x3F800000#32, 0x3F666666#32, 0x3F333333#32, 0x3F000000#32, 0x3E99999A#32, 0x3DCCCCCD#32,
    0xBDCCCCCD#32, 0xBE99999A#32, 0xBF000000#32, 0xBF333333#32, 0xBF666666#32]

/-- The factor `-1 / (2 σ²)` of each kernel's exponent, as a 32-bit float pattern: `-500000` for the first, `-50` after. -/
def coBits : Fin 11 → BitVec 32 :=
  ![0xC8F42400#32, 0xC2480000#32, 0xC2480000#32, 0xC2480000#32, 0xC2480000#32, 0xC2480000#32,
    0xC2480000#32, 0xC2480000#32, 0xC2480000#32, 0xC2480000#32, 0xC2480000#32]

/-- The reciprocal `1 / σ` of each kernel's width, as a 32-bit float pattern: `1000` for the first, `10` after. -/
def sgBits : Fin 11 → BitVec 32 :=
  ![0x447A0000#32, 0x41200000#32, 0x41200000#32, 0x41200000#32, 0x41200000#32, 0x41200000#32,
    0x41200000#32, 0x41200000#32, 0x41200000#32, 0x41200000#32, 0x41200000#32]

/-- The `k`-th Gaussian kernel of a similarity. -/
def gauss (k : Fin 11) (s : EReal) : EReal :=
  Ideal.exp ((s - Ideal.ofBits .f32 (muBits k)) * (s - Ideal.ofBits .f32 (muBits k)) * Ideal.ofBits .f32 (coBits k))

/-- The dot product of two rows of 128 responses. -/
def sim (a b : Fin 128 → EReal) : EReal := ∑ c : Fin 128, a c * b c

/-- The pooled sum over the document rows `d` of one query row `q`, each row's kernel value weighted by its mask. -/
def pooled {nd : ℕ} (q : Fin 128 → EReal) (d : Fin nd → Fin 128 → EReal) (md : Fin nd → EReal) (k : Fin 11) : EReal :=
  ∑ j : Fin nd, gauss k (sim q (d j)) * md j

/-- One pooled feature: the logarithms of the floored pooled sums, weighted by the query mask and summed. -/
def feature {nq nd : ℕ} (q : Fin nq → Fin 128 → EReal) (d : Fin nd → Fin 128 → EReal) (mq : Fin nq → EReal)
    (md : Fin nd → EReal) (k : Fin 11) : EReal :=
  ∑ i : Fin nq, Ideal.log (max (pooled (q i) d md k) floor) * mq i

/-- The response of one filter row on one embedding row. -/
def lin (x w : Fin 300 → EReal) : EReal := ∑ e : Fin 300, x e * w e

/-- The unit row of the width-one filters on one embedding row. -/
def uniRow (w : Fin 128 → Fin 300 → EReal) (b : Fin 128 → EReal) (x : Fin 300 → EReal) : Fin 128 → EReal :=
  unitRow fun c => lin x (w c) + b c

/-- The unit row of the width-two filters on two consecutive embedding rows. -/
def biRow (w0 w1 : Fin 128 → Fin 300 → EReal) (b : Fin 128 → EReal) (x0 x1 : Fin 300 → EReal) : Fin 128 → EReal :=
  unitRow fun c => (lin x0 (w0 c) + lin x1 (w1 c)) + b c

/-- The unit row of the width-three filters on three consecutive embedding rows. -/
def triRow (w0 w1 w2 : Fin 128 → Fin 300 → EReal) (b : Fin 128 → EReal) (x0 x1 x2 : Fin 300 → EReal) :
    Fin 128 → EReal :=
  unitRow fun c => ((lin x0 (w0 c) + lin x1 (w1 c)) + lin x2 (w2 c)) + b c

/-- The six filter blocks and three bias vectors of the three n-gram widths. -/
structure Filters where
  wu : Fin 128 → Fin 300 → EReal
  wb0 : Fin 128 → Fin 300 → EReal
  wb1 : Fin 128 → Fin 300 → EReal
  wt0 : Fin 128 → Fin 300 → EReal
  wt1 : Fin 128 → Fin 300 → EReal
  wt2 : Fin 128 → Fin 300 → EReal
  bu : Fin 128 → EReal
  bb : Fin 128 → EReal
  bt : Fin 128 → EReal

/-- The row `k` places further on, wrapping round at the end. -/
def next (k : ℕ) {n : ℕ} (i : Fin n) : Fin n := ⟨(i.val + k) % n, Nat.mod_lt _ i.pos⟩

/-- The unit row of width `g + 1` starting at row `i` of the embeddings `X`. -/
def gramRow (F : Filters) {n : ℕ} (X : Fin n → Fin 300 → EReal) (g : Fin 3) (i : Fin n) : Fin 128 → EReal :=
  match g with
  | 0 => uniRow F.wu F.bu (X i)
  | 1 => biRow F.wb0 F.wb1 F.bb (X i) (X (next 1 i))
  | 2 => triRow F.wt0 F.wt1 F.wt2 F.bt (X i) (X (next 1 i)) (X (next 2 i))

/-- The feature of one pair of widths of one query and document: `X`, `Y` their embedding rows, `wq`, `wd` their masks,
    the rows that would run past the end left out. -/
def pairFeature (F : Filters) (X : Fin 32 → Fin 300 → EReal) (Y : Fin 1024 → Fin 300 → EReal) (wq : Fin 32 → EReal)
    (wd : Fin 1024 → EReal) (g h : Fin 3) (k : Fin 11) : EReal :=
  feature (nq := 32 - g.val) (nd := 1024 - h.val) (fun i => gramRow F X g (Fin.castLE (Nat.sub_le _ _) i))
    (fun j => gramRow F Y h (Fin.castLE (Nat.sub_le _ _) j)) (fun i => wq (Fin.castLE (Nat.sub_le _ _) i))
    (fun j => wd (Fin.castLE (Nat.sub_le _ _) j)) k

/-- The ninety-nine features in the order both programs lay them out: nine pairs of widths, eleven kernels each. -/
def nine (f : Fin 3 → Fin 3 → Fin 11 → EReal) (l : Fin 99) : EReal :=
  if h : l.val < 11 then f 0 0 ⟨l.val, h⟩
  else if h : l.val - 11 < 11 then f 0 2 ⟨l.val - 11, h⟩
  else if h : l.val - 11 - 11 < 11 then f 0 1 ⟨l.val - 11 - 11, h⟩
  else if h : l.val - 11 - 11 - 11 < 11 then f 1 0 ⟨l.val - 11 - 11 - 11, h⟩
  else if h : l.val - 11 - 11 - 11 - 11 < 11 then f 2 0 ⟨l.val - 11 - 11 - 11 - 11, h⟩
  else if h : l.val - 11 - 11 - 11 - 11 - 11 < 11 then f 1 1 ⟨l.val - 11 - 11 - 11 - 11 - 11, h⟩
  else if h : l.val - 11 - 11 - 11 - 11 - 11 - 11 < 11 then f 1 2 ⟨l.val - 11 - 11 - 11 - 11 - 11 - 11, h⟩
  else if h : l.val - 11 - 11 - 11 - 11 - 11 - 11 - 11 < 11 then f 2 1 ⟨l.val - 11 - 11 - 11 - 11 - 11 - 11 - 11, h⟩
  else f 2 2 ⟨l.val - 11 - 11 - 11 - 11 - 11 - 11 - 11 - 11, by omega⟩

end Cert.Ngram

end
-- ==== Proof.KerCols.lean ====
module

public import proofs.«01_k».proof.Proof.Spec
public import proofs.«01_k».proof.Proof.Gen.KernelIdeal.Frame

@[expose] public section

set_option maxRecDepth 16384

noncomputable section

namespace Cert.Ngram

open Idealize.ShloMosaic
open Cert.KernelIdeal Cert.KernelIdeal.Gen

/-- One kernel's pooled column: the Gaussian of centre `mu` and factor `co` of every similarity, summed over the document
    rows. -/
def col (S : FVec Ideal S96x1024 .f32) (mu co : BitVec 32) : FVec Ideal S96x1 .f32 :=
  shapeCast S96x1 (multiReduction .add [1] S96 (exp (mulf (mulf (subf S (broadcast S96x1024 (Scalar.ofBits .f32 mu)))
    (subf S (broadcast S96x1024 (Scalar.ofBits .f32 mu)))) (broadcast S96x1024 (Scalar.ofBits .f32 co)))) 0x00000000#32
    reduces_S96x1024_S96 (.inl rfl) rfl) shapeCasts_S96_S96x1

/-- The logarithms of the eleven floored columns. -/
def logCols (S : FVec Ideal S96x1024 .f32) : FVec Ideal S96x11 .f32 :=
  log (maximumf (concatenate S96x11 1 [⟨S96x1, col S 0x3F800000#32 0xC8F42400#32⟩, ⟨S96x1, col S 0x3F666666#32 0xC2480000#32⟩,
    ⟨S96x1, col S 0x3F333333#32 0xC2480000#32⟩, ⟨S96x1, col S 0x3F000000#32 0xC2480000#32⟩,
    ⟨S96x1, col S 0x3E99999A#32 0xC2480000#32⟩, ⟨S96x1, col S 0x3DCCCCCD#32 0xC2480000#32⟩,
    ⟨S96x1, col S 0xBDCCCCCD#32 0xC2480000#32⟩, ⟨S96x1, col S 0xBE99999A#32 0xC2480000#32⟩,
    ⟨S96x1, col S 0xBF000000#32 0xC2480000#32⟩, ⟨S96x1, col S 0xBF333333#32 0xC2480000#32⟩,
    ⟨S96x1, col S 0xBF666666#32 0xC2480000#32⟩]
    concatenates_S96x1_S96x1_S96x1_S96x1_S96x1_S96x1_S96x1_S96x1_S96x1_S96x1_S96x1_S96x11_d1)
    (broadcast S96x11 (Scalar.ofBits .f32 0x2EDBE6FF#32)))

/-- A column at one query row. -/
theorem col_at (S : FVec Ideal S96x1024 .f32) (mu co : BitVec 32) (r : Fin 96) (z : Fin 1) :
    col S mu co (ix2 r z) = ∑ j : Fin 1024, Ideal.exp ((S (ix2 r j) - Ideal.ofBits .f32 mu)
      * (S (ix2 r j) - Ideal.ofBits .f32 mu) * Ideal.ofBits .f32 co) := by
  pointwise [col]

/-- The logarithm of a floored column at one query row, for each of the eleven kernels. -/
theorem logCols_at (S : FVec Ideal S96x1024 .f32) (r : Fin 96) (k : Fin 11) :
    logCols S (ix2 r k) = Ideal.log (max (∑ j : Fin 1024, gauss k (S (ix2 r j))) floor) := by
  have h : concatenate S96x11 1 [⟨S96x1, col S 0x3F800000#32 0xC8F42400#32⟩, ⟨S96x1, col S 0x3F666666#32 0xC2480000#32⟩,
      ⟨S96x1, col S 0x3F333333#32 0xC2480000#32⟩, ⟨S96x1, col S 0x3F000000#32 0xC2480000#32⟩,
      ⟨S96x1, col S 0x3E99999A#32 0xC2480000#32⟩, ⟨S96x1, col S 0x3DCCCCCD#32 0xC2480000#32⟩,
      ⟨S96x1, col S 0xBDCCCCCD#32 0xC2480000#32⟩, ⟨S96x1, col S 0xBE99999A#32 0xC2480000#32⟩,
      ⟨S96x1, col S 0xBF000000#32 0xC2480000#32⟩, ⟨S96x1, col S 0xBF333333#32 0xC2480000#32⟩,
      ⟨S96x1, col S 0xBF666666#32 0xC2480000#32⟩]
      concatenates_S96x1_S96x1_S96x1_S96x1_S96x1_S96x1_S96x1_S96x1_S96x1_S96x1_S96x1_S96x11_d1 (ix2 r k)
      = col S (muBits k) (coBits k) (ix2 r 0) := by
    pointwise
    fin_cases k <;> simp [muBits, coBits]
  show Ideal.log (max (concatenate S96x11 1 _ _ (ix2 r k)) floor) = _
  rw [h, col_at]
  rfl

/-- The nine pairs of widths cut from the table of pooled features and laid side by side. -/
def laid (M : FVec Ideal S3x33 .f32) : FVec Ideal S1x99 .f32 :=
  concatenate S1x99 1 [⟨S1x11, extractStridedSlice S1x11 ![0, 0] M slices_S3x33_o0_0_S1x11⟩,
      ⟨S1x11, extractStridedSlice S1x11 ![0, 22] M slices_S3x33_o0_22_S1x11⟩,
      ⟨S1x11, extractStridedSlice S1x11 ![0, 11] M slices_S3x33_o0_11_S1x11⟩,
      ⟨S1x11, extractStridedSlice S1x11 ![1, 0] M slices_S3x33_o1_0_S1x11⟩,
      ⟨S1x11, extractStridedSlice S1x11 ![2, 0] M slices_S3x33_o2_0_S1x11⟩,
      ⟨S1x11, extractStridedSlice S1x11 ![1, 11] M slices_S3x33_o1_11_S1x11⟩,
      ⟨S1x11, extractStridedSlice S1x11 ![1, 22] M slices_S3x33_o1_22_S1x11⟩,
      ⟨S1x11, extractStridedSlice S1x11 ![2, 11] M slices_S3x33_o2_11_S1x11⟩,
      ⟨S1x11, extractStridedSlice S1x11 ![2, 22] M slices_S3x33_o2_22_S1x11⟩]
    concatenates_S1x11_S1x11_S1x11_S1x11_S1x11_S1x11_S1x11_S1x11_S1x11_S1x99_d1

/-- The table of pooled features: the query masks times the logarithms of the three document widths. -/
def table (L0 L1 L2 : FVec Ideal S96x11 .f32) (x4 : Vec Ideal S1x3x96 .f32) : FVec Ideal S3x33 .f32 :=
  matmul dot_S3x96_S96x33_S3x33_1_0_0_1_n_n none (shapeCast S3x96 x4 shapeCasts_S1x3x96_S3x96 : FVec Ideal S3x96 .f32)
    (concatenate S96x33 1 [⟨S96x11, L0⟩, ⟨S96x11, L1⟩, ⟨S96x11, L2⟩] concatenates_S96x11_S96x11_S96x11_S96x33_d1)
    (constant S3x33 .f32 0x00000000#32)

/-- The laid-out features, entry by entry. -/
theorem laid_at (M : FVec Ideal S3x33 .f32) (z : Fin 1) (l : Fin 99) :
    laid M (ix2 z l) = nine (fun g h k => M (ix2 g ⟨11 * h.val + k.val, by omega⟩)) l := by
  pointwise [laid]
  unfold nine
  simp only [Fin.val_zero, Fin.val_one, Fin.val_two, Nat.mul_zero, Nat.mul_one, Nat.zero_add, Nat.reduceMul]

/-- The stacked logarithms at one query row. -/
theorem stack_at (L0 L1 L2 : FVec Ideal S96x11 .f32) (r : Fin 96) (h : Fin 3) (k : Fin 11) :
    concatenate S96x33 1 [⟨S96x11, L0⟩, ⟨S96x11, L1⟩, ⟨S96x11, L2⟩] concatenates_S96x11_S96x11_S96x11_S96x33_d1
      (ix2 r ⟨11 * h.val + k.val, by omega⟩) = (![L0, L1, L2] h) (ix2 r k) := by
  have hc : ∀ p : Fin 33, concatenate S96x33 1 [⟨S96x11, L0⟩, ⟨S96x11, L1⟩, ⟨S96x11, L2⟩]
      concatenates_S96x11_S96x11_S96x11_S96x33_d1 (ix2 r p) = if h : p.val < 11 then L0 (ix2 r ⟨p.val, h⟩)
        else if h : p.val - 11 < 11 then L1 (ix2 r ⟨p.val - 11, h⟩) else L2 (ix2 r ⟨p.val - 11 - 11, by omega⟩) := by
    intro p
    pointwise
  rw [hc]
  fin_cases h
  · rw [dif_pos (show 11 * 0 + k.val < 11 by omega)]
    exact congrArg (fun y => L0 (ix2 r y)) (Fin.ext (show 11 * 0 + k.val = k.val by omega))
  · rw [dif_neg (show ¬ 11 * 1 + k.val < 11 by omega), dif_pos (show 11 * 1 + k.val - 11 < 11 by omega)]
    exact congrArg (fun y => L1 (ix2 r y)) (Fin.ext (show 11 * 1 + k.val - 11 = k.val by omega))
  · rw [dif_neg (show ¬ 11 * 2 + k.val < 11 by omega), dif_neg (show ¬ 11 * 2 + k.val - 11 < 11 by omega)]
    exact congrArg (fun y => L2 (ix2 r y)) (Fin.ext (show 11 * 2 + k.val - 11 - 11 = k.val by omega))

/-- The table of pooled features at one pair of widths and one kernel. -/
theorem table_at (L0 L1 L2 : FVec Ideal S96x11 .f32) (x4 : Vec Ideal S1x3x96 .f32) (g h : Fin 3) (k : Fin 11) :
    table L0 L1 L2 x4 (ix2 g ⟨11 * h.val + k.val, by omega⟩)
      = ∑ r : Fin 96, x4 (ix3 0 g r) * (![L0, L1, L2] h) (ix2 r k) := by
  have hs := fun r => stack_at L0 L1 L2 r h k
  unfold table
  generalize concatenate S96x33 1 _ _ = C at hs ⊢
  pointwise
  exact Finset.sum_congr rfl fun r _ => by rw [hs]

variable (x0 : Vec Ideal S1x32x300 .f32) (x1 : Vec Ideal S1x1024x300 .f32) (x2 : Vec Ideal S300x768 .f32)
  (x3 : Vec Ideal S1x768 .f32) (x4 : Vec Ideal S1x3x96 .f32) (x5 : Vec Ideal S1x3x1024 .f32) (x6 : Vec Ideal S1x99 .f32)
  (x7 : Vec Ideal S1x1 .f32)

/-- The body's first logarithms are those of the width-one document rows' masked similarities. -/
theorem pay62_eq : k0_pay62 x0 x1 x2 x3 x4 x5 x6 x7 = logCols (k0_pay61 x0 x1 x2 x3 x4 x5 x6 x7) := rfl

/-- The body's second logarithms are those of the width-two document rows' masked similarities. -/
theorem pay66_eq : k0_pay66 x0 x1 x2 x3 x4 x5 x6 x7 = logCols (k0_pay65 x0 x1 x2 x3 x4 x5 x6 x7) := rfl

/-- The body's laid-out features from its three arrays of masked similarities. -/
theorem pay53_eq (L0 L1 : FVec Ideal S96x11 .f32) :
    k0_pay53 L0 L1 (k0_pay67 x0 x1 x2 x3 x4 x5 x6 x7) (k0_pay68 x0 x1 x2 x3 x4 x5 x6 x7) (k0_pay69 x0 x1 x2 x3 x4 x5 x6 x7)
      (k0_pay70 x0 x1 x2 x3 x4 x5 x6 x7) (k0_pay71 x0 x1 x2 x3 x4 x5 x6 x7) (k0_pay72 x0 x1 x2 x3 x4 x5 x6 x7)
      (k0_pay73 x0 x1 x2 x3 x4 x5 x6 x7) (k0_pay74 x0 x1 x2 x3 x4 x5 x6 x7) (k0_pay75 x0 x1 x2 x3 x4 x5 x6 x7)
      (k0_pay76 x0 x1 x2 x3 x4 x5 x6 x7) x4 = laid (table L0 L1 (logCols (k0_pay67 x0 x1 x2 x3 x4 x5 x6 x7)) x4) := rfl

end Cert.Ngram

end
-- ==== Proof.KerRows.lean ====
module

public import proofs.«01_k».proof.Proof.Spec
public import proofs.«01_k».proof.Proof.Gen.KernelIdeal.Skeleton

@[expose] public section

set_option maxRecDepth 16384

noncomputable section

namespace Cert.Ngram

open Idealize.ShloMosaic
open Cert.KernelIdeal Cert.KernelIdeal.Gen

/-- The stacked filter matrix `x2` and bias row `x3` hold the filters `F` in the order the body slices them: the
    second and third taps carry a zero bias. -/
structure Holds (F : Filters) (x2 : Vec Ideal S300x768 .f32) (x3 : Vec Ideal S1x768 .f32) : Prop where
  w0 : ∀ e (c : Fin 128), x2 (ix2 e ⟨c.val, by omega⟩) = F.wu c e
  w1 : ∀ e (c : Fin 128), x2 (ix2 e ⟨128 + c.val, by omega⟩) = F.wb0 c e
  w2 : ∀ e (c : Fin 128), x2 (ix2 e ⟨256 + c.val, by omega⟩) = F.wb1 c e
  w3 : ∀ e (c : Fin 128), x2 (ix2 e ⟨384 + c.val, by omega⟩) = F.wt0 c e
  w4 : ∀ e (c : Fin 128), x2 (ix2 e ⟨512 + c.val, by omega⟩) = F.wt1 c e
  w5 : ∀ e (c : Fin 128), x2 (ix2 e ⟨640 + c.val, by omega⟩) = F.wt2 c e
  b0 : ∀ c : Fin 128, x3 (ix2 0 ⟨c.val, by omega⟩) = F.bu c
  b1 : ∀ c : Fin 128, x3 (ix2 0 ⟨128 + c.val, by omega⟩) = F.bb c
  b2 : ∀ c : Fin 128, x3 (ix2 0 ⟨256 + c.val, by omega⟩) = 0
  b3 : ∀ c : Fin 128, x3 (ix2 0 ⟨384 + c.val, by omega⟩) = F.bt c
  b4 : ∀ c : Fin 128, x3 (ix2 0 ⟨512 + c.val, by omega⟩) = 0
  b5 : ∀ c : Fin 128, x3 (ix2 0 ⟨640 + c.val, by omega⟩) = 0

/-- The filter responses of an array of rows: each entry is a row's response plus its bias. -/
def Responses {n : ℕ} (X : Fin n → Fin 300 → EReal) (x2 : Vec Ideal S300x768 .f32) (x3 : Vec Ideal S1x768 .f32)
    (A : FVec Ideal ⟨2, ![n, 768]⟩ .f32) : Prop :=
  ∀ i p, A (ix2 i p) = lin (X i) (fun e => x2 (ix2 e p)) + x3 (ix2 0 p)

section
variable {F : Filters} {n : ℕ} {X : Fin n → Fin 300 → EReal} {x2 : Vec Ideal S300x768 .f32} {x3 : Vec Ideal S1x768 .f32}
  {A : FVec Ideal ⟨2, ![n, 768]⟩ .f32} (hF : Holds F x2 x3) (hA : Responses X x2 x3 A) (i : Fin n)
include hF hA

/-- The width-one row from the responses. -/
theorem uni_of : unitRow (fun c => A (ix2 i ⟨c.val, by omega⟩)) = gramRow F X 0 i :=
  congrArg unitRow (funext fun c => by simp only [hA i _, hF.w0, hF.b0])

/-- The width-two row from the responses, the second tap read one row on. -/
theorem bi_of : unitRow (fun c => A (ix2 i ⟨128 + c.val, by omega⟩) + A (ix2 (next 1 i) ⟨256 + c.val, by omega⟩))
    = gramRow F X 1 i :=
  congrArg unitRow (funext fun c => by
    simp only [hA i _, hA (next 1 i) _, hF.w1, hF.b1, hF.w2, hF.b2]
    rw [add_zero, add_right_comm])

/-- The width-three row from the responses, the later taps read one and two rows on. -/
theorem tri_of : unitRow (fun c => A (ix2 i ⟨384 + c.val, by omega⟩) + A (ix2 (next 1 i) ⟨512 + c.val, by omega⟩)
    + A (ix2 (next 2 i) ⟨640 + c.val, by omega⟩)) = gramRow F X 2 i :=
  congrArg unitRow (funext fun c => by
    simp only [hA i _, hA (next 1 i) _, hA (next 2 i) _, hF.w3, hF.b3, hF.w4, hF.b4, hF.w5, hF.b5]
    rw [add_zero, add_zero, add_right_comm (lin (X i) (F.wt0 c)), add_right_comm (lin (X i) (F.wt0 c) + _)])
end

/-- Rotating by `n - k` rows reads `k` rows on. -/
theorem rot_eq {n m k : ℕ} (hm : m + k = n) (i : Fin n) (h : (i.val + n - m) % n < n) :
    (⟨(i.val + n - m) % n, h⟩ : Fin n) = next k i := by
  apply Fin.ext
  show (i.val + n - m) % n = (i.val + k) % n
  congr 1
  omega

/-- The query responses. -/
theorem pay4_resp (x0 : Vec Ideal S1x32x300 .f32) (x2 : Vec Ideal S300x768 .f32) (x3 : Vec Ideal S1x768 .f32) :
    Responses (fun i e => x0 (ix3 0 i e)) x2 x3 (k0_pay4 x0 x2 x3) := by
  intro i p
  pointwise [k0_pay4, k0_pay3, k0_pay2]
  rfl

/-- The document responses. -/
theorem pay5_resp (x1 : Vec Ideal S1x1024x300 .f32) (x2 : Vec Ideal S300x768 .f32) (x3 : Vec Ideal S1x768 .f32) :
    Responses (fun i e => x1 (ix3 0 i e)) x2 x3 (k0_pay5 x1 x2 x3) := by
  intro i p
  pointwise [k0_pay5, k0_pay3, k0_pay2]
  rfl

/-- The document's width-one rows. -/
theorem pay10_at (A : FVec Ideal S1024x768 .f32) (i : Fin 1024) (o : Fin 128) :
    k0_pay10 A (ix2 i o) = unitRow (fun c => A (ix2 i ⟨c.val, by omega⟩)) o := by
  pointwise [k0_pay10]
  rfl

/-- The document's width-two rows. -/
theorem pay13_at (A : FVec Ideal S1024x768 .f32) (i : Fin 1024) (o : Fin 128) :
    k0_pay13 (k0_pay11 A) (k0_pay12 A) (ix2 i o)
      = unitRow (fun c => A (ix2 i ⟨128 + c.val, by omega⟩) + A (ix2 (next 1 i) ⟨256 + c.val, by omega⟩)) o := by
  pointwise [k0_pay13, k0_pay12, k0_pay11]
  simp only [rot_eq (show 1023 + 1 = 1024 from rfl)]
  rfl

/-- The document's width-three rows. -/
theorem pay14_at (A : FVec Ideal S1024x768 .f32) (i : Fin 1024) (o : Fin 128) :
    k0_pay14 A (ix2 i o) = unitRow (fun c => A (ix2 i ⟨384 + c.val, by omega⟩) + A (ix2 (next 1 i) ⟨512 + c.val, by omega⟩)
      + A (ix2 (next 2 i) ⟨640 + c.val, by omega⟩)) o := by
  pointwise [k0_pay14]
  simp only [rot_eq (show 1023 + 1 = 1024 from rfl), rot_eq (show 1022 + 2 = 1024 from rfl)]
  rfl

/-- The row of the stacked query rows that holds row `i` of width `g + 1`. -/
def qrow (g : Fin 3) (i : Fin 32) : Fin 96 := ⟨32 * g.val + i.val, by omega⟩

/-- The stacked query rows read at one row: the first 32 are the width-one rows, the next 32 the normalised width-two
    rows, the last 32 the width-three rows. -/
theorem pay9_at (A : FVec Ideal S32x768 .f32) (B C : FVec Ideal S32x128 .f32) (D : FVec Ideal S32x1 .f32) (r : Fin 96)
    (o : Fin 128) :
    k0_pay9 A B C D (ix2 r o) = if h : r.val < 32 then B (ix2 ⟨r.val, h⟩ o)
      else if h : r.val - 32 < 32 then
        Ideal.div (C (ix2 ⟨r.val - 32, h⟩ o)) (max (D (ix2 ⟨r.val - 32, h⟩ 0)) floor)
      else unitRow (fun c => A (ix2 ⟨r.val - 32 - 32, by omega⟩ ⟨384 + c.val, by omega⟩)
        + A (ix2 (next 1 ⟨r.val - 32 - 32, by omega⟩) ⟨512 + c.val, by omega⟩)
        + A (ix2 (next 2 ⟨r.val - 32 - 32, by omega⟩) ⟨640 + c.val, by omega⟩)) o := by
  have hr : r.val - 32 - 32 < 32 := by omega
  have r1 := rot_eq (show 31 + 1 = 32 from rfl) ⟨r.val - 32 - 32, hr⟩ (Nat.mod_lt _ (by omega))
  have r2 := rot_eq (show 30 + 2 = 32 from rfl) ⟨r.val - 32 - 32, hr⟩ (Nat.mod_lt _ (by omega))
  simp only [← r1, ← r2]
  pointwise [k0_pay9]
  rfl

/-- The stacked query rows: width one, then two, then three. -/
theorem query_at {F : Filters} (x0 : Vec Ideal S1x32x300 .f32) {x2 : Vec Ideal S300x768 .f32} {x3 : Vec Ideal S1x768 .f32}
    (hF : Holds F x2 x3) (g : Fin 3) (i : Fin 32) (o : Fin 128) :
    k0_pay9 (k0_pay4 x0 x2 x3) (k0_pay6 x0 x2 x3) (k0_pay7 x0 x2 x3) (k0_pay8 x0 x2 x3) (ix2 (qrow g i) o)
      = gramRow F (fun i e => x0 (ix3 0 i e)) g i o := by
  have hA := pay4_resp x0 x2 x3
  have h6 : ∀ i o, k0_pay6 x0 x2 x3 (ix2 i o) = gramRow F (fun i e => x0 (ix3 0 i e)) 0 i o := fun i o => by
    rw [← uni_of hF hA i]
    generalize hg : k0_pay4 x0 x2 x3 = A
    pointwise [k0_pay6, hg]
    rfl
  have h7 : ∀ i o, Ideal.div (k0_pay7 x0 x2 x3 (ix2 i o)) (max (k0_pay8 x0 x2 x3 (ix2 i 0)) floor)
      = gramRow F (fun i e => x0 (ix3 0 i e)) 1 i o := fun i o => by
    rw [← bi_of hF hA i]
    generalize hg : k0_pay4 x0 x2 x3 = A
    pointwise [k0_pay8, k0_pay7, hg]
    simp only [rot_eq (show 31 + 1 = 32 from rfl)]
    rfl
  have e1 : ∀ h, (⟨(qrow 1 i).val - 32, h⟩ : Fin 32) = i :=
    fun h => Fin.ext (show 32 * 1 + i.val - 32 = i.val by omega)
  have e2 : ∀ h, (⟨(qrow 2 i).val - 32 - 32, h⟩ : Fin 32) = i :=
    fun h => Fin.ext (show 32 * 2 + i.val - 32 - 32 = i.val by omega)
  have e0 : ∀ h, (⟨(qrow 0 i).val, h⟩ : Fin 32) = i := fun h => Fin.ext (show 32 * 0 + i.val = i.val by omega)
  have q0 : (qrow 0 i).val < 32 := show 32 * 0 + i.val < 32 by omega
  have q1 : ¬ (qrow 1 i).val < 32 := show ¬ 32 * 1 + i.val < 32 by omega
  have q1' : (qrow 1 i).val - 32 < 32 := show 32 * 1 + i.val - 32 < 32 by omega
  have q2 : ¬ (qrow 2 i).val < 32 := show ¬ 32 * 2 + i.val < 32 by omega
  have q2' : ¬ (qrow 2 i).val - 32 < 32 := show ¬ 32 * 2 + i.val - 32 < 32 by omega
  rw [pay9_at]
  rcases (by omega : g = 0 ∨ g = 1 ∨ g = 2) with rfl | rfl | rfl
  · rw [dif_pos q0, e0]
    exact h6 i o
  · rw [dif_neg q1, dif_pos q1', e1]
    exact h7 i o
  · rw [dif_neg q2, dif_neg q2', e2]
    exact congrFun (tri_of hF hA i) o

/-- A masked similarity array: the similarity where the mask is positive, `⊤` elsewhere. -/
theorem pay16_at (Q : FVec Ideal S96x128 .f32) (D : FVec Ideal S1024x128 .f32) (x5 : Vec Ideal S1x3x1024 .f32)
    (r : Fin 96) (j : Fin 1024) :
    k0_pay16 Q D x5 (ix2 r j) = if 0 < x5 (ix3 0 0 j) then ∑ c, Q (ix2 r c) * D (ix2 j c) else ⊤ := by
  pointwise [k0_pay16, k0_pay15]
  rfl

/-- The same for the width-two document rows. -/
theorem pay28_at (Q : FVec Ideal S96x128 .f32) (D : FVec Ideal S1024x128 .f32) (x5 : Vec Ideal S1x3x1024 .f32)
    (r : Fin 96) (j : Fin 1024) :
    k0_pay28 (k0_pay26 Q D) (k0_pay27 (k0_pay15 x5)) (Scalar.ofBits .f32 0x00000000#32) (ix2 r j)
      = if 0 < x5 (ix3 0 1 j) then ∑ c, Q (ix2 r c) * D (ix2 j c) else ⊤ := by
  pointwise [k0_pay28, k0_pay27, k0_pay26, k0_pay15]
  rfl

/-- The same for the width-three document rows. -/
theorem pay42_at (Q : FVec Ideal S96x128 .f32) (D : FVec Ideal S1024x128 .f32) (x5 : Vec Ideal S1x3x1024 .f32)
    (r : Fin 96) (j : Fin 1024) :
    k0_pay42 Q D (k0_pay15 x5) (ix2 r j)
      = if 0 < x5 (ix3 0 2 j) then ∑ c, Q (ix2 r c) * D (ix2 j c) else ⊤ := by
  pointwise [k0_pay42, k0_pay15]
  rfl

end Cert.Ngram

end
-- ==== Proof.Masks.lean ====
/-
  Masked sums: a masked document row adds nothing to a pooled sum, a masked query row nothing to a feature.
-/
module

public import proofs.«01_k».proof.Proof.Spec

@[expose] public section

noncomputable section

namespace Cert.Ngram

open Idealize.ShloMosaic

/-- A sum over `n` indices whose terms vanish from `m` on is the sum over the first `m`. -/
theorem sum_below {m n : ℕ} (hmn : m ≤ n) (f : Fin n → EReal) :
    (∑ i : Fin n, if i.val < m then f i else 0) = ∑ i : Fin m, f (Fin.castLE hmn i) := by
  obtain ⟨d, rfl⟩ := Nat.exists_eq_add_of_le hmn
  rw [Fin.sum_univ_add]
  simp only [Fin.val_castAdd, Fin.is_lt, if_true, Fin.val_natAdd, Nat.not_lt.mpr (Nat.le_add_right _ _), if_false,
    Finset.sum_const_zero, add_zero]
  rfl

/-- A sum over 96 rows as three sums over 32. -/
theorem sum_rows (f : Fin 96 → EReal) :
    ∑ r : Fin 96, f r = ∑ g : Fin 3, ∑ i : Fin 32, f ⟨32 * g.val + i.val, by omega⟩ := by
  rw [← Fintype.sum_prod_type' (f := fun (g : Fin 3) (i : Fin 32) => f ⟨32 * g.val + i.val, by omega⟩)]
  refine (Fintype.sum_equiv (finProdFinEquiv (m := 3) (n := 32)) _ _ fun p => ?_).symm
  exact congrArg f (Fin.ext (Nat.add_comm _ _))

/-- Each Gaussian kernel vanishes at `⊤`. -/
theorem gauss_top (k : Fin 11) : gauss k ⊤ = 0 := by
  have hm : ∃ m : ℝ, Ideal.ofBits .f32 (muBits k) = (m : EReal) := by
    fin_cases k <;> simp [muBits, Ideal.ofBits, Ideal.ieee, -EReal.coe_mul]
    all_goals exact ⟨_, (EReal.coe_neg _).symm⟩
  have hc : ∃ c : ℝ, c < 0 ∧ Ideal.ofBits .f32 (coBits k) = (c : EReal) := by
    rcases Fin.eq_zero_or_eq_succ k with rfl | ⟨j, rfl⟩
    · refine ⟨-500000, by norm_num, ?_⟩
      simp [coBits, Ideal.ofBits, Ideal.ieee, -EReal.coe_mul]; norm_num
    · have hc : coBits j.succ = 0xC2480000#32 := by clear hm; revert j; decide
      rw [hc]
      refine ⟨-50, by norm_num, ?_⟩
      simp [Ideal.ofBits, Ideal.ieee, -EReal.coe_mul]; norm_num
  obtain ⟨m, hm⟩ := hm
  obtain ⟨c, hc0, hc⟩ := hc
  unfold gauss
  rw [hm, hc, EReal.top_sub_coe, EReal.top_mul_top, EReal.top_mul_coe_of_neg hc0]
  rfl

/-- The pooled sum of masked similarities: with a mask `w` of zeros and ones cut off after `m` rows, replacing a masked
    similarity by `⊤` sums the kernel values weighted by the mask over the first `m` rows. -/
theorem pooled_masked {m n : ℕ} (hmn : m ≤ n) (q : Fin 128 → EReal) (d : Fin n → Fin 128 → EReal) (w : Fin n → EReal)
    (hw : ∀ j, w j = 0 ∨ w j = 1) (k : Fin 11) :
    (∑ j : Fin n, gauss k (if 0 < (if j.val < m then w j else 0) then sim q (d j) else ⊤))
      = pooled q (fun j => d (Fin.castLE hmn j)) (fun j => w (Fin.castLE hmn j)) k := by
  unfold pooled
  rw [← sum_below hmn fun j => gauss k (sim q (d j)) * w j]
  refine Finset.sum_congr rfl fun j _ => ?_
  by_cases hj : j.val < m
  · rw [if_pos hj, if_pos hj]
    rcases hw j with h | h
    · rw [h, if_neg (lt_irrefl _), gauss_top, mul_zero]
    · rw [h, if_pos zero_lt_one, mul_one]
  · rw [if_neg hj, if_neg hj, if_neg (lt_irrefl _), gauss_top]

/-- One entry of the table of features: the query masks of width `g + 1` are zero outside their own block of 32 rows and
    past their last row, so the sum over 96 rows is the sum over the first `m` rows of that block. -/
theorem rows_masked {m : ℕ} (hm : m ≤ 32) (g : Fin 3) (x : Fin 96 → EReal) (L : Fin 96 → EReal) (w : Fin 32 → EReal)
    (hx : ∀ (g' : Fin 3) (i : Fin 32), x ⟨32 * g'.val + i.val, by omega⟩
      = if g' = g then (if i.val < m then w i else 0) else 0) :
    (∑ r : Fin 96, x r * L r)
      = ∑ i : Fin m, L ⟨32 * g.val + (Fin.castLE hm i).val, by omega⟩ * w (Fin.castLE hm i) := by
  rw [sum_rows, Finset.sum_eq_single g]
  · rw [← sum_below hm fun i => L ⟨32 * g.val + i.val, by omega⟩ * w i]
    refine Finset.sum_congr rfl fun i _ => ?_
    rw [hx, if_pos rfl]
    split
    · exact mul_comm _ _
    · exact zero_mul _
  · intro g' _ hg
    refine Finset.sum_eq_zero fun i _ => ?_
    rw [hx, if_neg hg, zero_mul]
  · exact fun h => absurd (Finset.mem_univ _) h

end Cert.Ngram

end
-- ==== Proof.KerBlock.lean ====
module

public import proofs.«01_k».proof.Proof.KerCols
public import proofs.«01_k».proof.Proof.KerRows
public import proofs.«01_k».proof.Proof.Masks
public import Idealize.ShloMosaic.Lib.Pipeline.ValueKit

@[expose] public section

set_option maxRecDepth 16384

noncomputable section

namespace Cert.Ngram

open Idealize.ShloMosaic
open Cert.KernelIdeal Cert.KernelIdeal.Gen

variable (x0 : Vec Ideal S1x32x300 .f32) (x1 : Vec Ideal S1x1024x300 .f32) (x2 : Vec Ideal S300x768 .f32)
  (x3 : Vec Ideal S1x768 .f32) (x4 : Vec Ideal S1x3x96 .f32) (x5 : Vec Ideal S1x3x1024 .f32) (x6 : Vec Ideal S1x99 .f32)
  (x7 : Vec Ideal S1x1 .f32)

/-- The three arrays of masked similarities, one per document width. -/
theorem masked_at {F : Filters} (hF : Holds F x2 x3) (g h : Fin 3) (i : Fin 32) (j : Fin 1024) :
    (![k0_pay61 x0 x1 x2 x3 x4 x5 x6 x7, k0_pay65 x0 x1 x2 x3 x4 x5 x6 x7, k0_pay67 x0 x1 x2 x3 x4 x5 x6 x7] h)
        (ix2 (qrow g i) j)
      = if 0 < x5 (ix3 0 h j) then sim (gramRow F (fun i e => x0 (ix3 0 i e)) g i)
          (gramRow F (fun j e => x1 (ix3 0 j e)) h j) else ⊤ := by
  have hA := pay5_resp x1 x2 x3
  have hQ : k0_pay57 x0 x1 x2 x3 x4 x5 x6 x7
      = k0_pay9 (k0_pay4 x0 x2 x3) (k0_pay6 x0 x2 x3) (k0_pay7 x0 x2 x3) (k0_pay8 x0 x2 x3) := by
    unfold k0_pay57; frame_out
  have h56 : k0_pay56 x0 x1 x2 x3 x4 x5 x6 x7 = k0_pay5 x1 x2 x3 := by unfold k0_pay56; frame_out
  have h5 : View.ld x5 r0_4 = x5 := by frame_out
  have hq := fun o => query_at x0 hF g i o
  rcases (by omega : h = 0 ∨ h = 1 ∨ h = 2) with rfl | rfl | rfl
  · show k0_pay61 x0 x1 x2 x3 x4 x5 x6 x7 (ix2 (qrow g i) j) = _
    unfold k0_pay61 k0_pay58
    rw [hQ, h56, h5, pay16_at]
    unfold sim
    simp only [hq, pay10_at, uni_of hF hA j]
  · show k0_pay65 x0 x1 x2 x3 x4 x5 x6 x7 (ix2 (qrow g i) j) = _
    unfold k0_pay65 k0_pay64 k0_pay63 k0_pay60
    rw [hQ, h56, h5, pay28_at]
    unfold sim
    simp only [hq, pay13_at, bi_of hF hA j]
  · show k0_pay67 x0 x1 x2 x3 x4 x5 x6 x7 (ix2 (qrow g i) j) = _
    unfold k0_pay67 k0_pay59 k0_pay60
    rw [hQ, h56, h5, pay42_at]
    unfold sim
    simp only [hq, pay14_at, tri_of hF hA j]

/-- The features the body lays out are the nine pairs' pooled features, when the weight block holds the filters, the
    query masks stand block by block in their rows and the document masks are shortened by the width and zero or one. -/
theorem laid_nine {F : Filters} {wq : Fin 32 → EReal} {wd : Fin 1024 → EReal} (hF : Holds F x2 x3)
    (h4 : ∀ (g g' : Fin 3) (i : Fin 32), x4 (ix3 0 g ⟨32 * g'.val + i.val, by omega⟩)
      = if g' = g then (if i.val < 32 - g.val then wq i else 0) else 0)
    (h5 : ∀ (h : Fin 3) (j : Fin 1024), x5 (ix3 0 h j) = if j.val < 1024 - h.val then wd j else 0)
    (hwd : ∀ j, wd j = 0 ∨ wd j = 1) (z : Fin 1) (l : Fin 99) :
    laid (table (k0_pay62 x0 x1 x2 x3 x4 x5 x6 x7) (k0_pay66 x0 x1 x2 x3 x4 x5 x6 x7)
        (logCols (k0_pay67 x0 x1 x2 x3 x4 x5 x6 x7)) x4) (ix2 z l)
      = nine (pairFeature F (fun i e => x0 (ix3 0 i e)) (fun j e => x1 (ix3 0 j e)) wq wd) l := by
  rw [laid_at]
  refine congrArg (fun f => nine f l) (funext fun g => funext fun h => funext fun k => ?_)
  have hL : ∀ r, (![k0_pay62 x0 x1 x2 x3 x4 x5 x6 x7, k0_pay66 x0 x1 x2 x3 x4 x5 x6 x7,
      logCols (k0_pay67 x0 x1 x2 x3 x4 x5 x6 x7)] h) (ix2 r k) = logCols ((![k0_pay61 x0 x1 x2 x3 x4 x5 x6 x7,
        k0_pay65 x0 x1 x2 x3 x4 x5 x6 x7, k0_pay67 x0 x1 x2 x3 x4 x5 x6 x7] h)) (ix2 r k) := by
    intro r
    rw [pay62_eq, pay66_eq]
    rcases (by omega : h = 0 ∨ h = 1 ∨ h = 2) with rfl | rfl | rfl <;> rfl
  have hM := fun i j => masked_at x0 x1 x2 x3 x4 x5 x6 x7 hF g h i j
  rw [table_at]
  simp only [hL, logCols_at]
  rw [rows_masked (Nat.sub_le 32 g.val) g (fun r => x4 (ix3 0 g r)) _ wq (h4 g)]
  refine Finset.sum_congr rfl fun i _ => congrArg (fun y => Ideal.log (max y floor) * _) ?_
  rw [← pooled_masked (Nat.sub_le 1024 h.val) _ (gramRow F (fun j e => x1 (ix3 0 j e)) h) wd hwd]
  refine Finset.sum_congr rfl fun j _ => congrArg (gauss k) ?_
  rw [← h5]
  exact hM _ j

/-- What the body writes to its first output. -/
theorem out8_at {F : Filters} {wq : Fin 32 → EReal} {wd : Fin 1024 → EReal} (hF : Holds F x2 x3)
    (h4 : ∀ (g g' : Fin 3) (i : Fin 32), x4 (ix3 0 g ⟨32 * g'.val + i.val, by omega⟩)
      = if g' = g then (if i.val < 32 - g.val then wq i else 0) else 0)
    (h5 : ∀ (h : Fin 3) (j : Fin 1024), x5 (ix3 0 h j) = if j.val < 1024 - h.val then wd j else 0)
    (hwd : ∀ j, wd j = 0 ∨ wd j = 1) (l : Fin 99) :
    out0_8 x0 x1 x2 x3 x4 x5 x6 x7 (ix3 0 0 l)
      = nine (pairFeature F (fun i e => x0 (ix3 0 i e)) (fun j e => x1 (ix3 0 j e)) wq wd) l := by
  rw [← laid_nine x0 x1 x2 x3 x4 x5 x6 x7 hF h4 h5 hwd 0 l, ← pay53_eq]
  unfold out0_8
  frame_out
  unfold k0_pay54
  generalize k0_pay53 (F := Ideal) _ _ _ _ _ _ _ _ _ _ _ _ _ = A
  pointwise

/-- What the body writes to its second output: the features times the dense row, plus the dense bias. -/
theorem out9_at {F : Filters} {wq : Fin 32 → EReal} {wd : Fin 1024 → EReal} (hF : Holds F x2 x3)
    (h4 : ∀ (g g' : Fin 3) (i : Fin 32), x4 (ix3 0 g ⟨32 * g'.val + i.val, by omega⟩)
      = if g' = g then (if i.val < 32 - g.val then wq i else 0) else 0)
    (h5 : ∀ (h : Fin 3) (j : Fin 1024), x5 (ix3 0 h j) = if j.val < 1024 - h.val then wd j else 0)
    (hwd : ∀ j, wd j = 0 ∨ wd j = 1) :
    out0_9 x0 x1 x2 x3 x4 x5 x6 x7 (ix3 0 0 0)
      = (∑ l : Fin 99, nine (pairFeature F (fun i e => x0 (ix3 0 i e)) (fun j e => x1 (ix3 0 j e)) wq wd) l
          * x6 (ix2 0 l)) + x7 (ix2 0 0) := by
  simp only [← laid_nine x0 x1 x2 x3 x4 x5 x6 x7 hF h4 h5 hwd 0, ← pay53_eq]
  unfold out0_9
  frame_out
  unfold k0_pay55
  generalize k0_pay53 (F := Ideal) _ _ _ _ _ _ _ _ _ _ _ _ _ = A
  pointwise [k0_pay1]

end Cert.Ngram

end
-- ==== Proof.HostArrays.lean ====
/-
  The arrays the host lays out for the kernel before the launch, as terms of the program's arguments.
-/
module

public import proofs.«01_k».proof.Proof.Spec
public import proofs.«01_k».proof.Proof.Gen.KernelIdeal.Frame
public import Idealize.ShloMosaic.Lib.Claim

@[expose] public section

set_option maxRecDepth 16384

noncomputable section

namespace Cert.Ngram

open Idealize.ShloMosaic Idealize.ShloMosaic.TcCoe
open Cert.KernelIdeal Cert.KernelIdeal.Gen

/-- Six blocks of 128 rows one under another. -/
def stacked (w0 w1 w2 w3 w4 w5 : FVec Ideal S128x300 .f32) : FVec Ideal S768x300 .f32 :=
  concatenate S768x300 0 [⟨S128x300, w0⟩, ⟨S128x300, w1⟩, ⟨S128x300, w2⟩, ⟨S128x300, w3⟩, ⟨S128x300, w4⟩, ⟨S128x300, w5⟩]
    concatenates_S128x300_S128x300_S128x300_S128x300_S128x300_S128x300_S768x300_d0

/-- The six filter blocks one under another, transposed. -/
def weights (a4 : FVec Ideal S128x1x1x300 .f32) (a6 : FVec Ideal S128x1x2x300 .f32) (a8 : FVec Ideal S128x1x3x300 .f32) :
    FVec Ideal S300x768 .f32 :=
  transpose S300x768 [1, 0] (stacked (shapeCast S128x300 a4 shapeCasts_S128x1x1x300_S128x300)
    (shapeCast S128x300 (extractStridedSlice S128x1x1x300 ![0, 0, 0, 0] a6
      slices_S128x1x2x300_S128x1x1x300_0_0_0_0) shapeCasts_S128x1x1x300_S128x300)
    (shapeCast S128x300 (extractStridedSlice S128x1x1x300 ![0, 0, 1, 0] a6
      slices_S128x1x2x300_S128x1x1x300_0_0_1_0) shapeCasts_S128x1x1x300_S128x300)
    (shapeCast S128x300 (extractStridedSlice S128x1x1x300 ![0, 0, 0, 0] a8
      slices_S128x1x3x300_S128x1x1x300_0_0_0_0) shapeCasts_S128x1x1x300_S128x300)
    (shapeCast S128x300 (extractStridedSlice S128x1x1x300 ![0, 0, 1, 0] a8
      slices_S128x1x3x300_S128x1x1x300_0_0_1_0) shapeCasts_S128x1x1x300_S128x300)
    (shapeCast S128x300 (extractStridedSlice S128x1x1x300 ![0, 0, 2, 0] a8
      slices_S128x1x3x300_S128x1x1x300_0_0_2_0) shapeCasts_S128x1x1x300_S128x300)) transposes_S768x300_S300x768_1_0

/-- Six bias vectors end to end. -/
def strung (b0 b1 b2 b3 b4 b5 : FVec Ideal S128 .f32) : FVec Ideal S768 .f32 :=
  concatenate S768 0 [⟨S128, b0⟩, ⟨S128, b1⟩, ⟨S128, b2⟩, ⟨S128, b3⟩, ⟨S128, b4⟩, ⟨S128, b5⟩]
    concatenates_S128_S128_S128_S128_S128_S128_S768_d0

/-- Zero for the blocks that carry no bias. -/
def noBias : FVec Ideal S128 .f32 := broadcastInDim S128 ![] bcast_S_S128 (constant S_ .f32 0x00000000#32)

/-- The bias of every column. -/
def biases (a5 a7 a9 : FVec Ideal S128 .f32) : FVec Ideal S1x768 .f32 :=
  broadcastInDim S1x768 ![1] bcast_S768_S1x768_1 (strung a5 a7 noBias a9 noBias noBias)

/-- A query mask with the places from `k` on set to zero. -/
def keptQ (x : FVec Ideal S64x32 .f32) (k : BitVec 32) : FVec Ideal S64x32 .f32 :=
  mulf x (broadcastInDim S64x32 ![0, 1] bcast_S1x32_S64x32_0_1 (broadcastInDim S1x32 ![1] bcast_S32_S1x32_1
    (uitofp .f32 (cmpi .slt (iotaInDim S32 32 0) (broadcastInDim S32 ![] bcast_S_S32 (constantI S_ 32 k))))))

/-- A document mask with the places from `k` on set to zero. -/
def keptD (y : FVec Ideal S64x1024 .f32) (k : BitVec 32) : FVec Ideal S64x1024 .f32 :=
  mulf y (broadcastInDim S64x1024 ![0, 1] bcast_S1x1024_S64x1024_0_1 (broadcastInDim S1x1024 ![1] bcast_S1024_S1x1024_1
    (uitofp .f32 (cmpi .slt (iotaInDim S1024 32 0) (broadcastInDim S1024 ![] bcast_S_S1024 (constantI S_ 32 k))))))

/-- Two index words put together. -/
def both (a b : IVec S1 32) : IVec S2 32 := concatenate S2 0 [⟨S1, a⟩, ⟨S1, b⟩] concatenates_S1_S1_S2_d0

/-- The pair of index words of one scatter. -/
def pair (a b : BitVec 32) : IVec S2 32 :=
  both (broadcastInDim S1 ![] bcast_S_S1 (constantI S_ 32 a)) (broadcastInDim S1 ![] bcast_S_S1 (constantI S_ 32 b))

/-- One strip of query masks written over a table. -/
def strip (X : FVec Ideal S64x3x96 .f32) (p : IVec S2 32) (U : FVec Ideal S64x32 .f32) : FVec Ideal S64x3x96 .f32 :=
  Host.scatter scatter_S64x3x96_S2_S64x32_01_1_12_0 (fun _ b => b) X p U

/-- The table of query masks: the mask of each width in its own strip, zero elsewhere. -/
def queryTable (x : FVec Ideal S64x32 .f32) : FVec Ideal S64x3x96 .f32 :=
  strip (strip (strip (broadcastInDim S64x3x96 ![] bcast_S_S64x3x96 (constant S_ .f32 0x00000000#32)) (pair 0#32 0#32) x)
    (pair 1#32 32#32) (keptQ x 31#32)) (pair 2#32 64#32) (keptQ x 30#32)

/-- The table of document masks, one row per width. -/
def docTable (y : FVec Ideal S64x1024 .f32) : FVec Ideal S64x3x1024 .f32 :=
  concatenate S64x3x1024 1 [⟨S64x1x1024, broadcastInDim S64x1x1024 ![0, 2] bcast_S64x1024_S64x1x1024_0_2 y⟩,
    ⟨S64x1x1024, broadcastInDim S64x1x1024 ![0, 2] bcast_S64x1024_S64x1x1024_0_2 (keptD y 1023#32)⟩,
    ⟨S64x1x1024, broadcastInDim S64x1x1024 ![0, 2] bcast_S64x1024_S64x1x1024_0_2 (keptD y 1022#32)⟩]
    concatenates_S64x1x1024_S64x1x1024_S64x1x1024_S64x3x1024_d1

variable (m : (ℓ : Loc nD τ sig) → Buf (Elt Ideal) ℓ) (c : Dev nD)

/-- What a buffer holds at the launch is what the host's line leaves in it. -/
theorem entry_eq (b : Ref sig .tc) :
    V m c b = StableHlo.after hostOps0 (fun b => m (c, b)) (Proc.devRef .tc b) :=
  congrArg (fun L => StableHlo.after L _ _) (List.append_nil _)

set_option maxHeartbeats 8000000

/-- The weight window's array. -/
theorem entry_v12 : V m c main_call0_v12 = weights (m ((c : Thread nD τ).loc main_arg4)) (m ((c : Thread nD τ).loc main_arg6))
    (m ((c : Thread nD τ).loc main_arg8)) := by
  rw [entry_eq]; after_results_simp
  change transpose S300x768 [1, 0] (stacked _ _ _ _ _ _) _ = _
  after_results
  rfl

/-- The bias window's array. -/
theorem entry_v15 : V m c main_call0_v15 = biases (m ((c : Thread nD τ).loc main_arg5)) (m ((c : Thread nD τ).loc main_arg7))
    (m ((c : Thread nD τ).loc main_arg9)) := by
  rw [entry_eq]; after_results_simp
  change broadcastInDim S1x768 ![1] bcast_S768_S1x768_1 (strung _ _ _ _ _ _) = _
  after_results
  rfl

/-- The query-mask window's array. -/
theorem entry_v41 : V m c main_call0_v41 = queryTable (m ((c : Thread nD τ).loc main_arg2)) := by
  rw [entry_eq]; after_results
  simp only [StableHlo.TRef.ofBuf_toBuf]
  unfold queryTable keptQ pair strip both
  generalize (Host.scatter scatter_S64x3x96_S2_S64x32_01_1_12_0 (fun _ b => b) : FVec Ideal S64x3x96 .f32 → IVec S2 32
    → FVec Ideal S64x32 .f32 → FVec Ideal S64x3x96 .f32) = s
  rfl

/-- The document-mask window's array. -/
theorem entry_v58 : V m c main_call0_v58 = docTable (m ((c : Thread nD τ).loc main_arg3)) := by
  rw [entry_eq]; after_results
  rfl

/-- The dense bias window's array. -/
theorem entry_v59 : V m c main_call0_v59 = shapeCast S1x1 (m ((c : Thread nD τ).loc main_arg11) : FVec Ideal S1 .f32)
    shapeCasts_S1_S1x1 := by
  rw [entry_eq]; after_results
  rfl

end Cert.Ngram

end
-- ==== Proof.HostScatter.lean ====
/-
  The host's scatter that lays one query-mask row into one strip of the mask table, read at one index.
-/
module

public import proofs.«01_k».proof.Proof.Spec
public import proofs.«01_k».proof.Proof.Gen.KernelIdeal.Frame
public import Idealize.ShloMosaic.Lib.Routing.OpsSet

@[expose] public section

set_option maxRecDepth 16384

noncomputable section

namespace Cert.Ngram

open Idealize.ShloMosaic
open Cert.KernelIdeal Cert.KernelIdeal.Gen

/-- The index word an update reads for an axis of the table: none for the query, the first for the strip, the second for
    the place along the strip. -/
theorem strip_start (idx : IVec S2 32) (j : S64x32.Idx) :
    scatter_S64x3x96_S2_S64x32_01_1_12_0.start j idx 0 = 0
      ∧ scatter_S64x3x96_S2_S64x32_01_1_12_0.start j idx 1 = (idx (ix1 0)).toInt
      ∧ scatter_S64x3x96_S2_S64x32_01_1_12_0.start j idx 2 = (idx (ix1 1)).toInt := by
  refine ⟨rfl, ?_, ?_⟩
  · refine congrArg (fun y => (idx y).toInt) (funext fun a => ?_)
    fin_cases a; rfl
  · refine congrArg (fun y => (idx y).toInt) (funext fun a => ?_)
    fin_cases a; rfl

/-- The place of an update within its window. -/
theorem strip_window (B : Fin 64) (i : Fin 32) :
    scatter_S64x3x96_S2_S64x32_01_1_12_0.window (ix2 B i) 0 = B.val
      ∧ scatter_S64x3x96_S2_S64x32_01_1_12_0.window (ix2 B i) 1 = 0
      ∧ scatter_S64x3x96_S2_S64x32_01_1_12_0.window (ix2 B i) 2 = i.val := ⟨rfl, rfl, rfl⟩

/-- Where an update lands. -/
theorem strip_lands (idx : IVec S2 32) {a b : ℕ} (ha : (idx (ix1 0)).toInt = a) (hb : (idx (ix1 1)).toInt = b)
    (B' B : Fin 64) (i : Fin 32) (g : Fin 3) (r : Fin 96) :
    scatter_S64x3x96_S2_S64x32_01_1_12_0.resultIdx? (ix2 B' i) idx = some (ix3 B g r)
      ↔ B' = B ∧ g.val = a ∧ r.val = b + i.val := by
  obtain ⟨s0, s1, s2⟩ := strip_start idx (ix2 B' i)
  obtain ⟨w0, w1, w2⟩ := strip_window B' i
  rw [Routing.resultIdx?_eq_some]
  constructor
  · intro h
    have h0 := h 0
    have h1 := h 1
    have h2 := h 2
    rw [s0, w0] at h0
    rw [s1, w1, ha] at h1
    rw [s2, w2, hb] at h2
    replace h0 : (0 : Int) + (B'.val : Int) = (B.val : Int) := h0
    replace h1 : (a : Int) + ((0 : ℕ) : Int) = (g.val : Int) := h1
    replace h2 : (b : Int) + (i.val : Int) = (r.val : Int) := h2
    exact ⟨Fin.ext (by omega), by omega, by omega⟩
  · rintro ⟨rfl, hg, hr⟩ q
    match q with
    | ⟨0, _⟩ => exact (congrArg₂ (fun (x : Int) (y : ℕ) => x + (y : Int)) s0 w0).trans (Int.zero_add _)
    | ⟨1, _⟩ =>
      refine (congrArg₂ (fun (x : Int) (y : ℕ) => x + (y : Int)) (s1.trans ha) w1).trans ?_
      show (a : Int) + ((0 : ℕ) : Int) = (g.val : Int)
      omega
    | ⟨2, _⟩ =>
      refine (congrArg₂ (fun (x : Int) (y : ℕ) => x + (y : Int)) (s2.trans hb) w2).trans ?_
      show (b : Int) + (i.val : Int) = (r.val : Int)
      omega

/-- The scatter at one place of the table: the update's entry where it lies in the strip, what was there before
    elsewhere. -/
theorem strip_at (X : FVec Ideal S64x3x96 .f32) (idx : IVec S2 32) (U : FVec Ideal S64x32 .f32) {a b : ℕ}
    (ha : (idx (ix1 0)).toInt = a) (hb : (idx (ix1 1)).toInt = b) (B : Fin 64) (g : Fin 3) (r : Fin 96) :
    Host.scatter scatter_S64x3x96_S2_S64x32_01_1_12_0 (fun _ b => b) X idx U (ix3 B g r)
      = if h : g.val = a ∧ b ≤ r.val ∧ r.val - b < 32 then U (ix2 B ⟨r.val - b, h.2.2⟩) else X (ix3 B g r) := by
  have hl : ∀ k : S64x32.Idx, scatter_S64x3x96_S2_S64x32_01_1_12_0.resultIdx? k idx = some (ix3 B g r)
      ↔ (k 0 : Fin 64) = B ∧ g.val = a ∧ r.val = b + (k 1 : Fin 32).val := fun k =>
    (by rw [← eq_ix2 k] : _ ↔ _).trans (strip_lands idx ha hb (k 0) B (k 1) g r)
  by_cases h : g.val = a ∧ b ≤ r.val ∧ r.val - b < 32
  · rw [dif_pos h]
    refine Routing.scatter_set_hit _ X idx U _ _ (fun k hk => ?_) (ix2 B ⟨r.val - b, h.2.2⟩) ?_
    · obtain ⟨h0, -, h2⟩ := (hl k).1 hk
      refine congrArg U ((eq_ix2 k).trans ?_)
      exact congrArg₂ ix2 h0 (Fin.ext (by show (k 1 : Fin 32).val = r.val - b; omega))
    · exact (strip_lands idx ha hb B B _ g r).2 ⟨rfl, h.1, by show r.val = b + (r.val - b); omega⟩
  · rw [dif_neg h]
    refine Routing.scatter_set_miss _ X idx U _ fun k hk => h ?_
    obtain ⟨-, h1, h2⟩ := (hl k).1 hk
    exact ⟨h1, by omega, by have : (k 1 : Fin 32).val < 32 := (k 1).isLt; omega⟩

end Cert.Ngram

end
-- ==== Proof.Arguments.lean ====
/-
  The filters as the programs' arguments hold them.
-/
module

public import proofs.«01_k».proof.Proof.Spec

@[expose] public section

noncomputable section

namespace Cert.Ngram

open Idealize.ShloMosaic

/-- The filters and biases as the programs' arguments hold them: one filter bank for each width, its rows one after
    the other, and its bias. -/
def filters (a4 : FVec Ideal ⟨4, ![128, 1, 1, 300]⟩ .f32) (a5 : FVec Ideal ⟨1, ![128]⟩ .f32)
    (a6 : FVec Ideal ⟨4, ![128, 1, 2, 300]⟩ .f32) (a7 : FVec Ideal ⟨1, ![128]⟩ .f32)
    (a8 : FVec Ideal ⟨4, ![128, 1, 3, 300]⟩ .f32) (a9 : FVec Ideal ⟨1, ![128]⟩ .f32) : Filters where
  wu c e := a4 (ix4 c 0 0 e)
  wb0 c e := a6 (ix4 c 0 0 e)
  wb1 c e := a6 (ix4 c 0 1 e)
  wt0 c e := a8 (ix4 c 0 0 e)
  wt1 c e := a8 (ix4 c 0 1 e)
  wt2 c e := a8 (ix4 c 0 2 e)
  bu c := a5 (ix1 c)
  bb c := a7 (ix1 c)
  bt c := a9 (ix1 c)

end Cert.Ngram

end
-- ==== Proof.HostReads.lean ====
/-
  The arrays the host lays out for the kernel, read at one index.
-/
module

public import proofs.«01_k».proof.Proof.HostArrays
public import proofs.«01_k».proof.Proof.HostScatter
public import proofs.«01_k».proof.Proof.KerRows
public import proofs.«01_k».proof.Proof.Arguments
public import Idealize.ShloMosaic.Lib.WordCmp

@[expose] public section

set_option maxRecDepth 16384

noncomputable section

namespace Cert.Ngram

open Idealize.ShloMosaic Idealize.ShloMosaic.TcCoe
open Cert.KernelIdeal Cert.KernelIdeal.Gen

/-- The weight array at one entry: which of the six blocks the column falls in. -/
theorem weights_at (a4 : FVec Ideal S128x1x1x300 .f32) (a6 : FVec Ideal S128x1x2x300 .f32) (a8 : FVec Ideal S128x1x3x300 .f32)
    (e : Fin 300) (p : Fin 768) : weights a4 a6 a8 (ix2 e p) = if h : p.val < 128 then a4 (ix4 ⟨p.val, h⟩ 0 0 e)
      else if h : p.val - 128 < 128 then a6 (ix4 ⟨p.val - 128, h⟩ 0 0 e)
      else if h : p.val - 128 - 128 < 128 then a6 (ix4 ⟨p.val - 128 - 128, h⟩ 0 1 e)
      else if h : p.val - 128 - 128 - 128 < 128 then a8 (ix4 ⟨p.val - 128 - 128 - 128, h⟩ 0 0 e)
      else if h : p.val - 128 - 128 - 128 - 128 < 128 then a8 (ix4 ⟨p.val - 128 - 128 - 128 - 128, h⟩ 0 1 e)
      else a8 (ix4 ⟨p.val - 128 - 128 - 128 - 128 - 128, by omega⟩ 0 2 e) := by
  pointwise [weights, stacked]

/-- The bias array at one entry. -/
theorem biases_at (a5 a7 a9 : FVec Ideal S128 .f32) (p : Fin 768) :
    biases a5 a7 a9 (ix2 0 p) = if h : p.val < 128 then a5 (ix1 ⟨p.val, h⟩)
      else if h : p.val - 128 < 128 then a7 (ix1 ⟨p.val - 128, h⟩)
      else if p.val - 128 - 128 < 128 then 0
      else if h : p.val - 128 - 128 - 128 < 128 then a9 (ix1 ⟨p.val - 128 - 128 - 128, h⟩)
      else 0 := by
  pointwise [biases, strung, noBias]
  simp

/-- The two arrays hold the filters column by column. -/
theorem holds (a4 : FVec Ideal S128x1x1x300 .f32) (a5 : FVec Ideal S128 .f32) (a6 : FVec Ideal S128x1x2x300 .f32)
    (a7 : FVec Ideal S128 .f32) (a8 : FVec Ideal S128x1x3x300 .f32) (a9 : FVec Ideal S128 .f32) :
    Holds (filters a4 a5 a6 a7 a8 a9) (weights a4 a6 a8) (biases a5 a7 a9) where
  w0 e c := by
    rw [weights_at]; simp (disch := first | omega | (dsimp only; omega)) only [dif_pos, dif_neg, if_pos, if_neg]
    rfl
  w1 e c := by
    rw [weights_at]; simp (disch := first | omega | (dsimp only; omega)) only [dif_pos, dif_neg, if_pos, if_neg]
    exact congrArg (fun y => a6 (ix4 y 0 0 e)) (Fin.ext (by first | omega | (dsimp only; omega)))
  w2 e c := by
    rw [weights_at]; simp (disch := first | omega | (dsimp only; omega)) only [dif_pos, dif_neg, if_pos, if_neg]
    exact congrArg (fun y => a6 (ix4 y 0 1 e)) (Fin.ext (by first | omega | (dsimp only; omega)))
  w3 e c := by
    rw [weights_at]; simp (disch := first | omega | (dsimp only; omega)) only [dif_pos, dif_neg, if_pos, if_neg]
    exact congrArg (fun y => a8 (ix4 y 0 0 e)) (Fin.ext (by first | omega | (dsimp only; omega)))
  w4 e c := by
    rw [weights_at]; simp (disch := first | omega | (dsimp only; omega)) only [dif_pos, dif_neg, if_pos, if_neg]
    exact congrArg (fun y => a8 (ix4 y 0 1 e)) (Fin.ext (by first | omega | (dsimp only; omega)))
  w5 e c := by
    rw [weights_at]; simp (disch := first | omega | (dsimp only; omega)) only [dif_pos, dif_neg, if_pos, if_neg]
    exact congrArg (fun y => a8 (ix4 y 0 2 e)) (Fin.ext (by first | omega | (dsimp only; omega)))
  b0 c := by
    rw [biases_at]; simp (disch := first | omega | (dsimp only; omega)) only [dif_pos, dif_neg, if_pos, if_neg]
    rfl
  b1 c := by
    rw [biases_at]; simp (disch := first | omega | (dsimp only; omega)) only [dif_pos, dif_neg, if_pos, if_neg]
    exact congrArg (fun y => a7 (ix1 y)) (Fin.ext (by first | omega | (dsimp only; omega)))
  b2 c := by
    rw [biases_at]; simp (disch := first | omega | (dsimp only; omega)) only [dif_pos, dif_neg, if_pos, if_neg]
  b3 c := by
    rw [biases_at]; simp (disch := first | omega | (dsimp only; omega)) only [dif_pos, dif_neg, if_pos, if_neg]
    exact congrArg (fun y => a9 (ix1 y)) (Fin.ext (by first | omega | (dsimp only; omega)))
  b4 c := by
    rw [biases_at]; simp (disch := first | omega | (dsimp only; omega)) only [dif_pos, dif_neg, if_pos, if_neg]
  b5 c := by
    rw [biases_at]; simp (disch := first | omega | (dsimp only; omega)) only [dif_pos, dif_neg, if_pos, if_neg]

/-- A value times the bit of a comparison is the value where the comparison holds and zero elsewhere. -/
theorem times_bit (x : EReal) {i k : ℕ} (hi : i < 2 ^ 31) (hk : k < 2 ^ 31) :
    x * (FloatOps.uitofp (F := Ideal) FTy.f32 (IntOp.cmpi CmpIPredicate.slt (BitVec.ofNat 32 i) (BitVec.ofNat 32 k)) : EReal)
      = if i < k then x else 0 := by
  have h0 : (FloatOps.uitofp (F := Ideal) FTy.f32 0#1 : EReal) = 0 := by simp [FloatOps.uitofp]
  have h1 : (FloatOps.uitofp (F := Ideal) FTy.f32 1#1 : EReal) = 1 := by simp [FloatOps.uitofp]
  by_cases h : i < k
  · rw [(WordCmp.cmpi_slt_ofNat_eq_one_iff (by omega) (by omega)).2 h, h1, mul_one, if_pos h]
  · rw [(WordCmp.cmpi_slt_ofNat_eq_zero_iff (by omega) (by omega)).2 h, h0, mul_zero, if_neg h]

/-- A shortened query mask at one place. -/
theorem keptQ_at (x : FVec Ideal S64x32 .f32) (k : ℕ) (hk : k < 2 ^ 31) (B : Fin 64) (i : Fin 32) :
    keptQ x (BitVec.ofNat 32 k) (ix2 B i) = if i.val < k then x (ix2 B i) else 0 := by
  pointwise [keptQ]
  exact times_bit _ (by omega) hk

/-- A shortened document mask at one place. -/
theorem keptD_at (x : FVec Ideal S64x1024 .f32) (k : ℕ) (hk : k < 2 ^ 31) (B : Fin 64) (i : Fin 1024) :
    keptD x (BitVec.ofNat 32 k) (ix2 B i) = if i.val < k then x (ix2 B i) else 0 := by
  pointwise [keptD]
  exact times_bit _ (by omega) hk

/-- The table of document masks at one place: the mask, shortened by the width. -/
theorem docTable_at (x : FVec Ideal S64x1024 .f32) (B : Fin 64) (h : Fin 3) (j : Fin 1024) :
    docTable x (ix3 B h j) = if j.val < 1024 - h.val then x (ix2 B j) else 0 := by
  have h1 := keptD_at x 1023 (by norm_num) B j
  have h2 := keptD_at x 1022 (by norm_num) B j
  pointwise [docTable]
  rcases (by omega : h = 0 ∨ h = 1 ∨ h = 2) with rfl | rfl | rfl
  · exact (if_pos j.isLt).symm
  · exact h1
  · exact h2

/-- The words of an index pair, read as numbers. -/
theorem pair_at (a b : BitVec 32) : pair a b (ix1 0) = a ∧ pair a b (ix1 1) = b := by
  constructor <;> pointwise [pair, both]

/-- The table of query masks at one place: in the strip of its own width the mask, shortened by the width; zero in the
    strips of the others. -/
theorem queryTable_at (x : FVec Ideal S64x32 .f32) (B : Fin 64) (g g' : Fin 3) (i : Fin 32) :
    queryTable x (ix3 B g ⟨32 * g'.val + i.val, by omega⟩)
      = if g' = g then (if i.val < 32 - g.val then x (ix2 B i) else 0) else 0 := by
  have h1 := keptQ_at x 31 (by norm_num) B
  have h2 := keptQ_at x 30 (by norm_num) B
  have own (X : FVec Ideal S64x3x96 .f32) (U : FVec Ideal S64x32 .f32) (k : Fin 3) (p q : BitVec 32)
      (hp : p.toInt = (k.val : ℕ)) (hq : q.toInt = (32 * k.val : ℕ)) :
      strip X (pair p q) U (ix3 B g ⟨32 * g'.val + i.val, by omega⟩)
        = if g = k ∧ g' = k then U (ix2 B i) else X (ix3 B g ⟨32 * g'.val + i.val, by omega⟩) := by
    unfold strip
    rw [strip_at X _ U (a := k.val) (b := 32 * k.val) (by rw [(pair_at _ _).1]; exact hp)
      (by rw [(pair_at _ _).2]; exact hq)]
    by_cases h : g = k ∧ g' = k
    · obtain ⟨rfl, rfl⟩ := h
      rw [if_pos ⟨rfl, rfl⟩, dif_pos (by refine ⟨rfl, ?_, ?_⟩ <;> (dsimp only; omega))]
      exact congrArg (fun y => U (ix2 B y)) (Fin.ext (by dsimp only; omega))
    · rw [if_neg h, dif_neg]
      rintro ⟨e1, e2, e3⟩
      dsimp only at e2 e3
      exact h ⟨Fin.ext e1, Fin.ext (by omega)⟩
  have hz (r : Fin 96) : broadcastInDim S64x3x96 ![] bcast_S_S64x3x96 (constant (F := Ideal) S_ FTy.f32 0#32) (ix3 B g r)
      = 0 := by
    pointwise
  unfold queryTable
  rw [own _ _ 2 _ _ rfl rfl, own _ _ 1 _ _ rfl rfl, own _ _ 0 _ _ rfl rfl, hz, h1, h2]
  have hi := i.isLt
  rcases (by omega : g = 0 ∨ g = 1 ∨ g = 2) with rfl | rfl | rfl <;>
    rcases (by omega : g' = 0 ∨ g' = 1 ∨ g' = 2) with rfl | rfl | rfl <;> simp

end Cert.Ngram

end
-- ==== Proof.KerArrays.lean ====
/-
  The kernel's two result arrays after the run, read from the program's arguments.
-/
module

public import proofs.«01_k».proof.Proof.KerBlock
public import proofs.«01_k».proof.Proof.HostReads

@[expose] public section

set_option maxRecDepth 16384

noncomputable section

namespace Cert.Ngram

open Idealize.ShloMosaic Idealize.ShloMosaic.TcCoe
open Cert.KernelIdeal Cert.KernelIdeal.Gen

variable (m : (ℓ : Loc nD τ sig) → Buf (Elt Ideal) ℓ) (c : Dev nD)

/-- The filters of the kernel's arguments. -/
def kerFilters : Filters :=
  filters (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))

/-- The embedding rows of query `b`. -/
def kerQuery (b : Fin 64) (i : Fin 32) (e : Fin 300) : EReal :=
  (m ((c : Thread nD τ).loc main_arg0) : FVec Ideal S64x32x300 .f32) (ix3 b i e)

/-- The embedding rows of document `b`. -/
def kerDoc (b : Fin 64) (j : Fin 1024) (e : Fin 300) : EReal :=
  (m ((c : Thread nD τ).loc main_arg1) : FVec Ideal S64x1024x300 .f32) (ix3 b j e)

/-- The mask of query `b`. -/
def kerQueryMask (b : Fin 64) (i : Fin 32) : EReal :=
  (m ((c : Thread nD τ).loc main_arg2) : FVec Ideal S64x32 .f32) (ix2 b i)

/-- The mask of document `b`. -/
def kerDocMask (b : Fin 64) (j : Fin 1024) : EReal :=
  (m ((c : Thread nD τ).loc main_arg3) : FVec Ideal S64x1024 .f32) (ix2 b j)

/-- The features of query and document `b`, pair of widths by pair of widths. -/
def kerFeature (b : Fin 64) : Fin 3 → Fin 3 → Fin 11 → EReal :=
  pairFeature (kerFilters m c) (kerQuery m c b) (kerDoc m c b) (kerQueryMask m c b) (kerDocMask m c b)

/-- Every window's block index at a grid point. -/
theorem idx : ∀ t : Fin cfg0.N, win0_0.index t = ![t.val, 0, 0] ∧ win0_1.index t = ![t.val, 0, 0]
    ∧ win0_2.index t = ![0, 0] ∧ win0_3.index t = ![0, 0] ∧ win0_4.index t = ![t.val, 0, 0]
    ∧ win0_5.index t = ![t.val, 0, 0] ∧ win0_6.index t = ![0, 0] ∧ win0_7.index t = ![0, 0]
    ∧ win0_8.index t = ![t.val, 0, 0] ∧ win0_9.index t = ![t.val, 0, 0] :=
  (by decide +kernel : ∀ t : Fin grid0.N, _)

/-- The batch row of a grid point. -/
def row (t : Fin cfg0.N) : Fin 64 := Fin.cast N_0 t

/-- A grid point's query block: the embedding rows of its batch row. -/
theorem blk0 (t : Fin cfg0.N) (i : Fin 32) (e : Fin 300) : iblk m c 0 t (ix3 0 i e) = kerQuery m c (row t) i e := by
  unfold kerQuery
  blk_ext [iblk, V_main_arg0, row, idx t]
  rfl

/-- A grid point's document block. -/
theorem blk1 (t : Fin cfg0.N) (i : Fin 1024) (e : Fin 300) : iblk m c 1 t (ix3 0 i e) = kerDoc m c (row t) i e := by
  unfold kerDoc
  blk_ext [iblk, V_main_arg1, row, idx t]
  rfl

/-- The weight block is the whole array. -/
theorem blk2 (t : Fin cfg0.N) : (iblk m c 2 t : FVec Ideal S300x768 .f32) = V m c main_call0_v12 := by
  blk_ext! [iblk, idx t]

/-- The bias block is the whole array. -/
theorem blk3 (t : Fin cfg0.N) : (iblk m c 3 t : FVec Ideal S1x768 .f32) = V m c main_call0_v15 := by
  blk_ext! [iblk, idx t]

/-- A grid point's query-mask block: its batch row of the table. -/
theorem blk4 (t : Fin cfg0.N) (g : Fin 3) (r : Fin 96) :
    iblk m c 4 t (ix3 0 g r) = (V m c main_call0_v41 : FVec Ideal S64x3x96 .f32) (ix3 (row t) g r) := by
  blk_ext [iblk, row, idx t]
  rfl

/-- A grid point's document-mask block. -/
theorem blk5 (t : Fin cfg0.N) (g : Fin 3) (r : Fin 1024) :
    iblk m c 5 t (ix3 0 g r) = (V m c main_call0_v58 : FVec Ideal S64x3x1024 .f32) (ix3 (row t) g r) := by
  blk_ext [iblk, row, idx t]
  rfl

/-- The dense row's block is the whole row. -/
theorem blk6 (t : Fin cfg0.N) : (iblk m c 6 t : FVec Ideal S1x99 .f32) = V m c main_arg10 := by
  blk_ext! [iblk, idx t]

/-- The dense bias's block is the whole array. -/
theorem blk7 (t : Fin cfg0.N) : (iblk m c 7 t : FVec Ideal S1x1 .f32) = V m c main_call0_v59 := by
  blk_ext! [iblk, idx t]

/-- The query rows of a grid point's block. -/
theorem blockQuery (t : Fin cfg0.N) : (fun (i : Fin 32) (e : Fin 300) => iblk m c 0 t (ix3 0 i e)) = kerQuery m c (row t) :=
  funext fun i => funext fun e => blk0 m c t i e

/-- The document rows of a grid point's block. -/
theorem blockDoc (t : Fin cfg0.N) : (fun (j : Fin 1024) (e : Fin 300) => iblk m c 1 t (ix3 0 j e)) = kerDoc m c (row t) :=
  funext fun i => funext fun e => blk1 m c t i e

/-- A grid point's weight and bias blocks hold the filters of the arguments. -/
theorem blockHolds (t : Fin cfg0.N) : Holds (kerFilters m c) (iblk m c 2 t) (iblk m c 3 t) := by
  rw [show (iblk m c 2 t : FVec Ideal S300x768 .f32) = _ from (blk2 m c t).trans (entry_v12 m c),
    show (iblk m c 3 t : FVec Ideal S1x768 .f32) = _ from (blk3 m c t).trans (entry_v15 m c)]
  exact holds _ _ _ _ _ _

/-- A grid point's query-mask block: strip by strip the mask of its batch row. -/
theorem blockQueryMask (t : Fin cfg0.N) (g g' : Fin 3) (i : Fin 32) :
    iblk m c 4 t (ix3 0 g ⟨32 * g'.val + i.val, by omega⟩)
      = if g' = g then (if i.val < 32 - g.val then kerQueryMask m c (row t) i else 0) else 0 := by
  rw [blk4, entry_v41]
  exact queryTable_at _ (row t) g g' i

/-- A grid point's document-mask block: the mask of its batch row, shortened by the width. -/
theorem blockDocMask (t : Fin cfg0.N) (h : Fin 3) (j : Fin 1024) :
    iblk m c 5 t (ix3 0 h j) = if j.val < 1024 - h.val then kerDocMask m c (row t) j else 0 := by
  rw [blk5, entry_v58]
  exact docTable_at _ (row t) h j

/-- The dense bias, read from its block. -/
theorem blockBias (t : Fin cfg0.N) :
    (iblk m c 7 t : FVec Ideal S1x1 .f32) (ix2 0 0) = (m ((c : Thread nD τ).loc main_arg11) : FVec Ideal S1 .f32) (ix1 0) := by
  rw [blk7, entry_v59]
  pointwise

/-- The dense row, read from its block. -/
theorem blockDense (t : Fin cfg0.N) (l : Fin 99) : (iblk m c 6 t : FVec Ideal S1x99 .f32) (ix2 0 l)
    = (m ((c : Thread nD τ).loc main_arg10) : FVec Ideal S1x99 .f32) (ix2 0 l) := by
  rw [blk6, V_main_arg10]

/-- The score of query and document `b`. -/
def kerScore (b : Fin 64) : EReal :=
  (∑ l : Fin 99, nine (kerFeature m c b) l * (m ((c : Thread nD τ).loc main_arg10) : FVec Ideal S1x99 .f32) (ix2 0 l))
    + (m ((c : Thread nD τ).loc main_arg11) : FVec Ideal S1 .f32) (ix1 0)

end Cert.Ngram

end
-- ==== Proof.KerFinal.lean ====
/-
  The kernel's two result arrays after the run.
-/
module

public import proofs.«01_k».proof.Proof.KerArrays

@[expose] public section

set_option maxRecDepth 16384

noncomputable section

namespace Cert.Ngram

open Idealize.ShloMosaic Idealize.ShloMosaic.TcCoe
open Cert.KernelIdeal Cert.KernelIdeal.Gen

variable (m : (ℓ : Loc nD τ sig) → Buf (Elt Ideal) ℓ) (c : Dev nD)

variable (hwd : ∀ b j, kerDocMask m c b j = 0 ∨ kerDocMask m c b j = 1)

include hwd

/-- The feature array after the run. -/
theorem features_final : (dats m 0 c).arrAt 8 cfg0.N
    = (fun j : S64x1x99.Idx => nine (kerFeature m c (j 0)) (j 2) : FVec Ideal S64x1x99 .f32) := by
  refine (dats m 0 c).arrAt_eq_of_covers 8 _ (by decide +kernel) fun t _ y => ?_
  blk_simp
  rw [after0_8]
  obtain ⟨l, rfl⟩ : ∃ l : Fin 99, y = ix3 0 0 l := ⟨y 2, by
    funext a
    fin_cases a
    · exact Subsingleton.elim (α := Fin 1) _ _
    · exact Subsingleton.elim (α := Fin 1) _ _
    · rfl⟩
  have e : (win0_8.blk t).view.emb (ix3 0 0 l) = ix3 (row t) 0 l := by
    blk_ext [row, idx t]
    rfl
  rw [e]
  refine (out8_at _ _ _ _ _ _ _ _ (blockHolds m c t) (blockQueryMask m c t) (blockDocMask m c t) (hwd (row t)) l).trans ?_
  rw [blockQuery, blockDoc]
  rfl

/-- The score array after the run. -/
theorem score_final : (dats m 0 c).arrAt 9 cfg0.N
    = (fun j : S64x1x1.Idx => kerScore m c (j 0) : FVec Ideal S64x1x1 .f32) := by
  refine (dats m 0 c).arrAt_eq_of_covers 9 _ (by decide +kernel) fun t _ y => ?_
  blk_simp
  rw [after0_9]
  obtain rfl : y = ix3 0 0 0 := by
    funext a
    fin_cases a <;> exact Subsingleton.elim (α := Fin 1) _ _
  have e : (win0_9.blk t).view.emb (ix3 0 0 0) = ix3 (row t) 0 0 := by
    blk_ext [row, idx t]
    rfl
  rw [e]
  refine (out9_at _ _ _ _ _ _ _ _ (blockHolds m c t) (blockQueryMask m c t) (blockDocMask m c t) (hwd (row t))).trans ?_
  rw [blockQuery, blockDoc, blockBias]
  simp only [blockDense]
  rfl

end Cert.Ngram

end
-- ==== Proof.KerRun.lean ====
/-
  What the whole kernel program leaves in its two results: the score of every pair and its 99 features.
-/
module

public import proofs.«01_k».proof.Proof.KerFinal
public import Idealize.ShloMosaic.Lib.Claim
public import Idealize.ShloMosaic.Lib.Pipeline.FrameTail

@[expose] public section

set_option maxRecDepth 16384

noncomputable section

namespace Cert.Ngram

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The first result after the host's last lines: the score of each pair. -/
theorem tail_score (hwd : ∀ b j, kerDocMask m c b j = 0 ∨ kerDocMask m c b j = 1) :
    (Pipeline.afterTail₀ cfgs (dats m) 0 (V0 m) [hostOps1] c main_v0_0 : FVec Ideal S64 .f32)
      = fun j : S64.Idx => kerScore m c (j 0) := by
  unfold Pipeline.afterTail₀
  simp only [List.flatten_cons, List.flatten_nil, List.append_nil]
  after_region_results
  erw [Pipeline.withArrays_arr (cfgs 0).spec launch0.win.arr_inj c (V0 m c) _ 9]
  refine Eq.trans (b := (shapeCast S64 ((dats m 0 c).arrAt 9 cfg0.N : FVec Ideal S64x1x1 .f32) shapeCasts_S64x1x1_S64 :
    FVec Ideal S64 .f32)) rfl ?_
  rw [score_final m c hwd]
  funext j
  exact shapeCast_apply _ shapeCasts_S64x1x1_S64 j (ix3 (j 0) 0 0)
    (by rw [Shape.rowMajor_val_three, Shape.rowMajor_val_one]; exact (Nat.mul_one _).trans (Nat.mul_one _))

/-- The second result after the host's last lines: the 99 features of each pair. -/
theorem tail_features (hwd : ∀ b j, kerDocMask m c b j = 0 ∨ kerDocMask m c b j = 1) :
    (Pipeline.afterTail₀ cfgs (dats m) 0 (V0 m) [hostOps1] c main_v0_1 : FVec Ideal S64x99 .f32)
      = fun j : S64x99.Idx => nine (kerFeature m c (j 0)) (j 1) := by
  unfold Pipeline.afterTail₀
  simp only [List.flatten_cons, List.flatten_nil, List.append_nil]
  after_region_results
  erw [Pipeline.withArrays_arr (cfgs 0).spec launch0.win.arr_inj c (V0 m c) _ 8]
  refine Eq.trans (b := (shapeCast S64x99 ((dats m 0 c).arrAt 8 cfg0.N : FVec Ideal S64x1x99 .f32)
    shapeCasts_S64x1x99_S64x99 : FVec Ideal S64x99 .f32)) rfl ?_
  rw [features_final m c hwd]
  funext j
  exact shapeCast_apply _ shapeCasts_S64x1x99_S64x99 j (ix3 (j 0) 0 (j 1))
    (by rw [Shape.rowMajor_val_three, Shape.rowMajor_val_two]; exact congrArg (fun n => n * 99 + (j 1).val) (Nat.mul_one _))

end Cert.Ngram

end

end
-- ==== Proof.RefPieces.lean ====
/-
  The reference's terms read at one index, for any number of query and document rows.
-/
module

public import proofs.«01_k».proof.Proof.Spec

@[expose] public section

set_option maxRecDepth 16384

noncomputable section

namespace Cert.Ngram

open Idealize.ShloMosaic

/-- A broadcast read at one index: every operand coordinate is the matching result coordinate, or its extent is one. -/
theorem bcast_eq {s t : Shape} {dims : Fin s.rank → Fin t.rank} (h : s.BroadcastsInDim t dims) (x : FVec Ideal s .f32)
    (j : t.Idx) (i : s.Idx) (hi : ∀ a, s.size a = 1 ∨ (i a : ℕ) = (j (dims a) : ℕ)) :
    broadcastInDim t dims h x j = x i := by
  unfold broadcastInDim
  refine congrArg x (funext fun a => ?_)
  rcases hi a with h1 | h1
  · have := (i a).isLt
    split <;> apply Fin.ext <;> simp only <;> omega
  · split
    · have := (i a).isLt
      apply Fin.ext; simp only; omega
    · exact Fin.ext h1.symm

/-- A trailing extent-one axis added to a matrix. -/
theorem bc_nq {m n : ℕ} (h) (x : FVec Ideal ⟨2, ![m, n]⟩ .f32) (b : Fin m) (i : Fin n) (z : Fin 1) :
    broadcastInDim ⟨3, ![m, n, 1]⟩ ![0, 1] h x (ix3 b i z) = x (ix2 b i) :=
  bcast_eq h x _ _ (fun a => by fin_cases a <;> right <;> rfl)

/-- An extent-one last axis of a rank-three array spread over it. -/
theorem bc_lane {m n l : ℕ} (h) (x : FVec Ideal ⟨3, ![m, n, 1]⟩ .f32) (b : Fin m) (i : Fin n) (o : Fin l) :
    broadcastInDim ⟨3, ![m, n, l]⟩ ![0, 1, 2] h x (ix3 b i o) = x (ix3 b i 0) :=
  bcast_eq h x _ _ (fun a => by fin_cases a; right; rfl; right; rfl; left; rfl)

/-- A trailing extent-one axis added to a rank-three array. -/
theorem bc_kq {m n l : ℕ} (h) (x : FVec Ideal ⟨3, ![m, n, l]⟩ .f32) (b : Fin m) (i : Fin n) (j : Fin l) (z : Fin 1) :
    broadcastInDim ⟨4, ![m, n, l, 1]⟩ ![0, 1, 2] h x (ix4 b i j z) = x (ix3 b i j) :=
  bcast_eq h x _ _ (fun a => by fin_cases a <;> right <;> rfl)

/-- An extent-one last axis of a rank-four array spread over it. -/
theorem bc_kern {m n l p : ℕ} (h) (x : FVec Ideal ⟨4, ![m, n, l, 1]⟩ .f32) (b : Fin m) (i : Fin n) (j : Fin l) (k : Fin p) :
    broadcastInDim ⟨4, ![m, n, l, p]⟩ ![0, 1, 2, 3] h x (ix4 b i j k) = x (ix4 b i j 0) :=
  bcast_eq h x _ _ (fun a => by fin_cases a; right; rfl; right; rfl; right; rfl; left; rfl)

/-- The document mask spread over query rows and kernels. -/
theorem bc_mask {m n l p : ℕ} (h) (x : FVec Ideal ⟨4, ![m, 1, l, 1]⟩ .f32) (b : Fin m) (i : Fin n) (j : Fin l) (k : Fin p) :
    broadcastInDim ⟨4, ![m, n, l, p]⟩ ![0, 1, 2, 3] h x (ix4 b i j k) = x (ix4 b 0 j 0) :=
  bcast_eq h x _ _ (fun a => by fin_cases a; right; rfl; left; rfl; right; rfl; left; rfl)

/-- The reference's normalisation of a row: the row over its floored Euclidean norm. -/
theorem norm_at {n : ℕ} (x : FVec Ideal ⟨3, ![64, n, 128]⟩ .f32)
    (h1 : (⟨0, ![]⟩ : Shape).BroadcastsInDim ⟨3, ![64, n, 1]⟩ (![] : Fin 0 → Fin 3))
    (h3 : (⟨3, ![64, n, 1]⟩ : Shape).BroadcastsInDim ⟨3, ![64, n, 128]⟩ ![0, 1, 2])
    (h4 : (⟨2, ![64, n]⟩ : Shape).BroadcastsInDim ⟨3, ![64, n, 1]⟩ ![0, 1])
    (h5 : (⟨3, ![64, n, 128]⟩ : Shape).ReducesTo [2] ⟨2, ![64, n]⟩) (h6 : 0 < (⟨0, ![]⟩ : Shape).numel)
    (b : Fin 64) (i : Fin n) (f : Fin 128 → EReal) (hx : ∀ c, x (ix3 b i c) = act (f c)) (o : Fin 128) :
    (Host.divf x (broadcastInDim ⟨3, ![64, n, 128]⟩ ![0, 1, 2] h3
      (maximumf (Host.sqrt (broadcastInDim ⟨3, ![64, n, 1]⟩ ![0, 1] h4
        (Host.reduceAdd (mulf x x) (constant ⟨0, ![]⟩ .f32 0x00000000#32) h5 h6)))
        (broadcastInDim ⟨3, ![64, n, 1]⟩ ![] h1 (constant ⟨0, ![]⟩ .f32 0x2EDBE6FF#32))))) (ix3 b i o)
      = unitRow f o := by
  have hs : Host.reduceAdd (mulf x x) (constant ⟨0, ![]⟩ .f32 0x00000000#32) h5 h6 (ix2 b i)
      = ∑ c : Fin 128, act (f c) * act (f c) := by
    pointwise
    exact Finset.sum_congr rfl fun c _ => by rw [hx]
  refine (congrArg (Ideal.div (x (ix3 b i o))) (bc_lane h3 _ b i o)).trans ?_
  refine (congrArg (fun y => Ideal.div (x (ix3 b i o)) (max (Ideal.sqrt y) floor)) (bc_nq h4 _ b i 0)).trans ?_
  rw [hs, hx]
  rfl

/-- Dividing a negated value by the square of `1 / s` and by two multiplies it by `-(s s) / 2`. -/
theorem expo_real (x : EReal) (s : ℝ) (hs : s ≠ 0) :
    Ideal.div (Ideal.div (-x) (Ideal.div 1 (s : EReal) * Ideal.div 1 (s : EReal))) ((2 : ℝ) : EReal)
      = x * ((-(s * s) / 2 : ℝ) : EReal) := by
  rw [Ideal.div_coe hs, one_mul, ← EReal.coe_mul, Ideal.div_coe two_ne_zero, Ideal.div_coe (by positivity),
    EReal.neg_mul, EReal.neg_mul, mul_assoc, ← EReal.coe_mul, mul_comm, ← EReal.neg_mul, ← EReal.coe_neg, mul_comm]
  congr 2
  field_simp

/-- The reference's exponent `-(t t) / σ² / 2` with `σ = 1 / s` is `t t` times the kernel's factor, for every
    extended real `t`. -/
theorem expo_eq (k : Fin 11) (t : EReal) :
    Ideal.div (Ideal.div (-(t * t)) (Ideal.div 1 (Ideal.ofBits .f32 (sgBits k)) * Ideal.div 1 (Ideal.ofBits .f32 (sgBits k))))
      (Ideal.ofBits .f32 0x40000000#32) = t * t * Ideal.ofBits .f32 (coBits k) := by
  have h2 : Ideal.ofBits .f32 0x40000000#32 = ((2 : ℝ) : EReal) := by
    simp [Ideal.ofBits, Ideal.ieee, -EReal.coe_mul]; norm_num
  have hk : ∃ s : ℝ, s ≠ 0 ∧ Ideal.ofBits .f32 (sgBits k) = (s : EReal)
      ∧ Ideal.ofBits .f32 (coBits k) = ((-(s * s) / 2 : ℝ) : EReal) := by
    rcases Fin.eq_zero_or_eq_succ k with rfl | ⟨j, rfl⟩
    · refine ⟨1000, by norm_num, ?_, ?_⟩ <;>
        simp [sgBits, coBits, Ideal.ofBits, Ideal.ieee, -EReal.coe_mul] <;> norm_num
    · have hs : sgBits j.succ = 0x41200000#32 := by revert j; decide
      have hc : coBits j.succ = 0xC2480000#32 := by revert j; decide
      rw [hs, hc]
      refine ⟨10, by norm_num, ?_, ?_⟩ <;>
        simp [Ideal.ofBits, Ideal.ieee, -EReal.coe_mul] <;> norm_num
  obtain ⟨s, hs, h1, hc⟩ := hk
  rw [h2, h1, hc]
  exact expo_real _ s hs

/-- The reference's pooled feature of one pair of widths, from the differences `df` of similarities and centres, the
    squared widths `sg`, the document mask `md` and the query mask `mq`, all spread over the kernels. -/
theorem inter_at {nq nd : ℕ} (df sg md : FVec Ideal ⟨4, ![64, nq, nd, 11]⟩ .f32) (mq : FVec Ideal ⟨3, ![64, nq, 11]⟩ .f32)
    (h5 : (⟨0, ![]⟩ : Shape).BroadcastsInDim ⟨4, ![64, nq, nd, 11]⟩ (![] : Fin 0 → Fin 4))
    (h7 : (⟨4, ![64, nq, nd, 11]⟩ : Shape).ReducesTo [2] ⟨3, ![64, nq, 11]⟩) (h8 : 0 < (⟨0, ![]⟩ : Shape).numel)
    (h9 : (⟨0, ![]⟩ : Shape).BroadcastsInDim ⟨3, ![64, nq, 11]⟩ (![] : Fin 0 → Fin 3))
    (h11 : (⟨3, ![64, nq, 11]⟩ : Shape).ReducesTo [1] ⟨2, ![64, 11]⟩) (b : Fin 64) (k : Fin 11)
    (q : Fin nq → Fin 128 → EReal) (d : Fin nd → Fin 128 → EReal) (wq : Fin nq → EReal) (wd : Fin nd → EReal)
    (hdf : ∀ i j, df (ix4 b i j k) = sim (q i) (d j) - Ideal.ofBits .f32 (muBits k))
    (hsg : ∀ i j, sg (ix4 b i j k)
      = Ideal.div 1 (Ideal.ofBits .f32 (sgBits k)) * Ideal.div 1 (Ideal.ofBits .f32 (sgBits k)))
    (hmd : ∀ i j, md (ix4 b i j k) = wd j) (hmq : ∀ i, mq (ix3 b i k) = wq i) :
    Host.reduceAdd (mulf (Host.log (maximumf (Host.reduceAdd (mulf (Host.exp (Host.divf (Host.divf (Host.negf (mulf df df))
      sg) (broadcastInDim ⟨4, ![64, nq, nd, 11]⟩ ![] h5 (constant ⟨0, ![]⟩ .f32 0x40000000#32)))) md)
      (constant ⟨0, ![]⟩ .f32 0x00000000#32) h7 h8)
      (broadcastInDim ⟨3, ![64, nq, 11]⟩ ![] h9 (constant ⟨0, ![]⟩ .f32 0x2EDBE6FF#32)))) mq)
      (constant ⟨0, ![]⟩ .f32 0x00000000#32) h11 h8 (ix2 b k) = feature q d wq wd k := by
  pointwise
  simp only [hdf, hsg, hmd, hmq]
  exact Finset.sum_congr rfl fun i _ => by
    refine congrArg (fun x => Ideal.log (max x floor) * wq i) (Finset.sum_congr rfl fun j _ => ?_)
    exact congrArg (fun x => Ideal.exp x * wd j) (expo_eq k _)

end Cert.Ngram

end
-- ==== Proof.RefRows.lean ====
/-
  The reference's unit rows and masks, read at one index.
-/
module

public import proofs.«01_k».proof.Proof.RefPieces
public import proofs.«01_k».proof.Proof.Arguments
public import proofs.«01_k».proof.Proof.Gen.ReferenceIdeal.Run

@[expose] public section

set_option maxRecDepth 16384

noncomputable section

namespace Cert.Ngram

open Idealize.ShloMosaic Idealize.ShloMosaic.TcCoe
open Cert.ReferenceIdeal Cert.ReferenceIdeal.Value

variable (V : Valuation τ sig (Elt Ideal))

/-- The filters of the reference's arguments. -/
def refFilters : Filters :=
  filters (V (Proc.devRef .tc main_arg4)) (V (Proc.devRef .tc main_arg5)) (V (Proc.devRef .tc main_arg6))
    (V (Proc.devRef .tc main_arg7)) (V (Proc.devRef .tc main_arg8)) (V (Proc.devRef .tc main_arg9))

/-- The embedding rows of query `b`. -/
def refQuery (b : Fin 64) (i : Fin 32) (e : Fin 300) : EReal :=
  (V (Proc.devRef .tc main_arg0) : FVec Ideal S64x32x300 .f32) (ix3 b i e)

/-- The embedding rows of document `b`. -/
def refDoc (b : Fin 64) (j : Fin 1024) (e : Fin 300) : EReal :=
  (V (Proc.devRef .tc main_arg1) : FVec Ideal S64x1024x300 .f32) (ix3 b j e)

/-- The mask of query `b`. -/
def refQueryMask (b : Fin 64) (i : Fin 32) : EReal := (V (Proc.devRef .tc main_arg2) : FVec Ideal S64x32 .f32) (ix2 b i)

/-- The mask of document `b`. -/
def refDocMask (b : Fin 64) (j : Fin 1024) : EReal :=
  (V (Proc.devRef .tc main_arg3) : FVec Ideal S64x1024 .f32) (ix2 b j)

/-- A row that does not run past the end: the row `k` further on is at the sum of the places. -/
theorem next_cast {n m k : ℕ} (i : Fin n) (h : n ≤ m) (hk : k + i.val < m) :
    next k (Fin.castLE h i) = (⟨k + i.val, hk⟩ : Fin m) :=
  Fin.ext ((Nat.mod_eq_of_lt (by rw [Fin.val_castLE]; omega)).trans (Nat.add_comm _ _))

/-- The width-one rows of a query. -/
theorem queryUni (b : Fin 64) (i : Fin 32) (o : Fin 128) :
    (res_main_v16 V : FVec Ideal S64x32x128 .f32) (ix3 b i o) = gramRow (refFilters V) (refQuery V b) 0 i o :=
  norm_at _ _ _ _ _ _ b i _ (fun c => by pointwise [res_main_v8]; rfl) o

/-- The width-two rows of a query. -/
theorem queryBi (b : Fin 64) (i : Fin 31) (o : Fin 128) : (res_main_v40 V : FVec Ideal S64x31x128 .f32) (ix3 b i o)
    = gramRow (refFilters V) (refQuery V b) 1 (Fin.castLE (by omega) i) o := by
  refine norm_at _ _ _ _ _ _ b i _ (fun c => ?_) o
  pointwise [res_main_v32]
  rw [next_cast i _ (by omega)]
  rfl

/-- The width-three rows of a query. -/
theorem queryTri (b : Fin 64) (i : Fin 30) (o : Fin 128) : (res_main_v69 V : FVec Ideal S64x30x128 .f32) (ix3 b i o)
    = gramRow (refFilters V) (refQuery V b) 2 (Fin.castLE (by omega) i) o := by
  refine norm_at _ _ _ _ _ _ b i _ (fun c => ?_) o
  pointwise [res_main_v61]
  rw [next_cast i _ (by omega), next_cast i _ (by omega)]
  rfl

/-- The width-one rows of a document. -/
theorem docUni (b : Fin 64) (j : Fin 1024) (o : Fin 128) :
    (res_main_v86 V : FVec Ideal S64x1024x128 .f32) (ix3 b j o) = gramRow (refFilters V) (refDoc V b) 0 j o :=
  norm_at _ _ _ _ _ _ b j _ (fun c => by pointwise [res_main_v78]; rfl) o

/-- The width-two rows of a document. -/
theorem docBi (b : Fin 64) (j : Fin 1023) (o : Fin 128) : (res_main_v110 V : FVec Ideal S64x1023x128 .f32) (ix3 b j o)
    = gramRow (refFilters V) (refDoc V b) 1 (Fin.castLE (by omega) j) o := by
  refine norm_at _ _ _ _ _ _ b j _ (fun c => ?_) o
  pointwise [res_main_v102]
  rw [next_cast j _ (by omega)]
  rfl

/-- The width-three rows of a document. -/
theorem docTri (b : Fin 64) (j : Fin 1022) (o : Fin 128) : (res_main_v139 V : FVec Ideal S64x1022x128 .f32) (ix3 b j o)
    = gramRow (refFilters V) (refDoc V b) 2 (Fin.castLE (by omega) j) o := by
  refine norm_at _ _ _ _ _ _ b j _ (fun c => ?_) o
  pointwise [res_main_v131]
  rw [next_cast j _ (by omega), next_cast j _ (by omega)]
  rfl

/-- The query masks of the three widths. -/
theorem queryMask (b : Fin 64) :
    (∀ i : Fin 32, (res_main_v140 V : FVec Ideal S64x32x1 .f32) (ix3 b i 0) = refQueryMask V b i)
    ∧ (∀ i : Fin 31, (res_main_v142 V : FVec Ideal S64x31x1 .f32) (ix3 b i 0) = refQueryMask V b (Fin.castLE (by omega) i))
    ∧ ∀ i : Fin 30, (res_main_v143 V : FVec Ideal S64x30x1 .f32) (ix3 b i 0) = refQueryMask V b (Fin.castLE (by omega) i) := by
  refine ⟨fun i => ?_, fun i => ?_, fun i => ?_⟩ <;> pointwise [res_main_v142, res_main_v143, res_main_v140] <;> rfl

/-- The document masks of the three widths. -/
theorem docMask (b : Fin 64) :
    (∀ j : Fin 1024, (res_main_v141 V : FVec Ideal S64x1x1024x1 .f32) (ix4 b 0 j 0) = refDocMask V b j)
    ∧ (∀ j : Fin 1023, (res_main_v144 V : FVec Ideal S64x1x1023x1 .f32) (ix4 b 0 j 0)
        = refDocMask V b (Fin.castLE (by omega) j))
    ∧ ∀ j : Fin 1022, (res_main_v145 V : FVec Ideal S64x1x1022x1 .f32) (ix4 b 0 j 0)
        = refDocMask V b (Fin.castLE (by omega) j) := by
  refine ⟨fun i => ?_, fun i => ?_, fun i => ?_⟩ <;> pointwise [res_main_v144, res_main_v145, res_main_v141] <;> rfl

end Cert.Ngram

end
-- ==== Proof.RefWhole.lean ====
/-
  The reference's pooled feature of one pair of widths from its similarities, and the nine laid side by side.
-/
module

public import proofs.«01_k».proof.Proof.RefPieces

@[expose] public section

set_option maxRecDepth 16384

noncomputable section

namespace Cert.Ngram

open Idealize.ShloMosaic

/-- A table over the kernels spread over rows, query rows and document rows. -/
theorem bc_table {m n l p : ℕ} (h) (x : FVec Ideal ⟨4, ![1, 1, 1, p]⟩ .f32) (b : Fin m) (i : Fin n) (j : Fin l) (k : Fin p) :
    broadcastInDim ⟨4, ![m, n, l, p]⟩ ![0, 1, 2, 3] h x (ix4 b i j k) = x (ix4 0 0 0 k) :=
  bcast_eq h x _ _ (fun a => by fin_cases a; left; rfl; left; rfl; left; rfl; right; rfl)

/-- The reference's pooled feature of one pair of widths, from the similarities `dt`, the tables of centres and widths
    and the masks as the program holds them. -/
theorem whole_at {nq nd : ℕ} (dt : FVec Ideal ⟨3, ![64, nq, nd]⟩ .f32) (mu sg : FVec Ideal ⟨4, ![1, 1, 1, 11]⟩ .f32)
    (md : FVec Ideal ⟨4, ![64, 1, nd, 1]⟩ .f32) (mq : FVec Ideal ⟨3, ![64, nq, 1]⟩ .f32)
    (g1 : (⟨4, ![64, nq, nd, 1]⟩ : Shape).BroadcastsInDim ⟨4, ![64, nq, nd, 11]⟩ ![0, 1, 2, 3])
    (g2 : (⟨3, ![64, nq, nd]⟩ : Shape).BroadcastsInDim ⟨4, ![64, nq, nd, 1]⟩ ![0, 1, 2])
    (g3 : (⟨4, ![1, 1, 1, 11]⟩ : Shape).BroadcastsInDim ⟨4, ![64, nq, nd, 11]⟩ ![0, 1, 2, 3])
    (g4 : (⟨4, ![64, 1, nd, 1]⟩ : Shape).BroadcastsInDim ⟨4, ![64, nq, nd, 11]⟩ ![0, 1, 2, 3])
    (g5 : (⟨3, ![64, nq, 1]⟩ : Shape).BroadcastsInDim ⟨3, ![64, nq, 11]⟩ ![0, 1, 2])
    (h5 : (⟨0, ![]⟩ : Shape).BroadcastsInDim ⟨4, ![64, nq, nd, 11]⟩ (![] : Fin 0 → Fin 4))
    (h7 : (⟨4, ![64, nq, nd, 11]⟩ : Shape).ReducesTo [2] ⟨3, ![64, nq, 11]⟩) (h8 : 0 < (⟨0, ![]⟩ : Shape).numel)
    (h9 : (⟨0, ![]⟩ : Shape).BroadcastsInDim ⟨3, ![64, nq, 11]⟩ (![] : Fin 0 → Fin 3))
    (h11 : (⟨3, ![64, nq, 11]⟩ : Shape).ReducesTo [1] ⟨2, ![64, 11]⟩) (b : Fin 64) (k : Fin 11)
    (q : Fin nq → Fin 128 → EReal) (d : Fin nd → Fin 128 → EReal) (wq : Fin nq → EReal) (wd : Fin nd → EReal)
    (hdt : ∀ i j, dt (ix3 b i j) = sim (q i) (d j)) (hmu : mu (ix4 0 0 0 k) = Ideal.ofBits .f32 (muBits k))
    (hsg : sg (ix4 0 0 0 k) = Ideal.div 1 (Ideal.ofBits .f32 (sgBits k)))
    (hmd : ∀ j, md (ix4 b 0 j 0) = wd j) (hmq : ∀ i, mq (ix3 b i 0) = wq i) :
    Host.reduceAdd (mulf (Host.log (maximumf (Host.reduceAdd (mulf (Host.exp (Host.divf (Host.divf (Host.negf (mulf
        (subf (broadcastInDim ⟨4, ![64, nq, nd, 11]⟩ ![0, 1, 2, 3] g1 (broadcastInDim ⟨4, ![64, nq, nd, 1]⟩ ![0, 1, 2] g2 dt))
          (broadcastInDim ⟨4, ![64, nq, nd, 11]⟩ ![0, 1, 2, 3] g3 mu))
        (subf (broadcastInDim ⟨4, ![64, nq, nd, 11]⟩ ![0, 1, 2, 3] g1 (broadcastInDim ⟨4, ![64, nq, nd, 1]⟩ ![0, 1, 2] g2 dt))
          (broadcastInDim ⟨4, ![64, nq, nd, 11]⟩ ![0, 1, 2, 3] g3 mu))))
      (broadcastInDim ⟨4, ![64, nq, nd, 11]⟩ ![0, 1, 2, 3] g3 (mulf sg sg)))
      (broadcastInDim ⟨4, ![64, nq, nd, 11]⟩ ![] h5 (constant ⟨0, ![]⟩ .f32 0x40000000#32))))
      (broadcastInDim ⟨4, ![64, nq, nd, 11]⟩ ![0, 1, 2, 3] g4 md))
      (constant ⟨0, ![]⟩ .f32 0x00000000#32) h7 h8)
      (broadcastInDim ⟨3, ![64, nq, 11]⟩ ![] h9 (constant ⟨0, ![]⟩ .f32 0x2EDBE6FF#32))))
      (broadcastInDim ⟨3, ![64, nq, 11]⟩ ![0, 1, 2] g5 mq))
      (constant ⟨0, ![]⟩ .f32 0x00000000#32) h11 h8 (ix2 b k) = feature q d wq wd k := by
  refine inter_at _ _ _ _ h5 h7 h8 h9 h11 b k q d wq wd (fun i j => ?_) (fun i j => ?_) (fun i j => ?_) (fun i => ?_)
  · refine (congrArg₂ (fun x y : EReal => x - y) (bc_kern g1 _ b i j k) (bc_table g3 mu b i j k)).trans ?_
    refine (congrArg (fun x : EReal => x - mu (ix4 0 0 0 k)) (bc_kq g2 dt b i j 0)).trans ?_
    rw [hdt, hmu]
  · refine (bc_table g3 _ b i j k).trans ?_
    rw [← hsg]
    rfl
  · exact (bc_mask g4 md b i j k).trans (hmd j)
  · exact (bc_lane g5 mq b i k).trans (hmq i)

/-- Nine blocks of eleven columns side by side, read at one place. -/
theorem nine_at (A0 A1 A2 A3 A4 A5 A6 A7 A8 : FVec Ideal ⟨2, ![64, 11]⟩ .f32) (h) (b : Fin 64) (l : Fin 99)
    (f : Fin 3 → Fin 3 → Fin 11 → EReal) (h0 : ∀ k, A0 (ix2 b k) = f 0 0 k) (h1 : ∀ k, A1 (ix2 b k) = f 0 2 k)
    (h2 : ∀ k, A2 (ix2 b k) = f 0 1 k) (h3 : ∀ k, A3 (ix2 b k) = f 1 0 k) (h4 : ∀ k, A4 (ix2 b k) = f 2 0 k)
    (h5 : ∀ k, A5 (ix2 b k) = f 1 1 k) (h6 : ∀ k, A6 (ix2 b k) = f 1 2 k) (h7 : ∀ k, A7 (ix2 b k) = f 2 1 k)
    (h8 : ∀ k, A8 (ix2 b k) = f 2 2 k) :
    concatenate ⟨2, ![64, 99]⟩ 1 [⟨⟨2, ![64, 11]⟩, A0⟩, ⟨⟨2, ![64, 11]⟩, A1⟩, ⟨⟨2, ![64, 11]⟩, A2⟩, ⟨⟨2, ![64, 11]⟩, A3⟩,
      ⟨⟨2, ![64, 11]⟩, A4⟩, ⟨⟨2, ![64, 11]⟩, A5⟩, ⟨⟨2, ![64, 11]⟩, A6⟩, ⟨⟨2, ![64, 11]⟩, A7⟩, ⟨⟨2, ![64, 11]⟩, A8⟩] h (ix2 b l)
      = nine f l := by
  pointwise
  simp only [h0, h1, h2, h3, h4, h5, h6, h7, h8]
  rfl

end Cert.Ngram

end
-- ==== Proof.RefFeatures.lean ====
/-
  What the reference computes: the ninety-nine features of every query and document, and their score.
-/
module

public import proofs.«01_k».proof.Proof.RefRows
public import proofs.«01_k».proof.Proof.RefWhole

@[expose] public section

set_option maxRecDepth 16384

noncomputable section

namespace Cert.Ngram

open Idealize.ShloMosaic Idealize.ShloMosaic.TcCoe
open Cert.ReferenceIdeal Cert.ReferenceIdeal.Gen Cert.ReferenceIdeal.Value

variable (V : Valuation τ sig (Elt Ideal))

/-- A table of eleven constants, read at one kernel. -/
theorem refTable_at (t u : Fin 11 → BitVec 32) (h : ∀ k, t k = u k) (hs) (k : Fin 11) :
    (shapeCast S1x1x1x11 (fun i => FloatOps.ofBits .f32 (t (S11.rowMajor i)) : FVec Ideal S11 .f32) hs) (ix4 0 0 0 k)
      = Ideal.ofBits .f32 (u k) := by
  pointwise
  refine (congrArg (Ideal.ofBits .f32) (h _)).trans ?_
  exact congrArg (fun y => Ideal.ofBits .f32 (u y)) (Fin.ext (by fin_cases k <;> rfl))

/-- One over a table of eleven constants, read at one kernel. -/
theorem refWidth_at (t u : Fin 11 → BitVec 32) (h : ∀ k, t k = u k) (hb) (hs) (k : Fin 11) :
    (Host.divf (broadcastInDim S1x1x1x11 ![] hb (constant (F := Ideal) S_ .f32 0x3F800000#32))
      (shapeCast S1x1x1x11 (fun i => FloatOps.ofBits .f32 (t (S11.rowMajor i)) : FVec Ideal S11 .f32) hs)) (ix4 0 0 0 k)
      = Ideal.div 1 (Ideal.ofBits .f32 (u k)) := by
  rw [← refTable_at t u h hs k]
  pointwise

/-- The features of query and document `b`, pair of widths by pair of widths. -/
def refFeature (b : Fin 64) : Fin 3 → Fin 3 → Fin 11 → EReal :=
  pairFeature (refFilters V) (refQuery V b) (refDoc V b) (refQueryMask V b) (refDocMask V b)

/-- The features of one pair of widths, as sums over as many rows as fit; the numbers of rows in numerals. -/
theorem refFeature_eq (b : Fin 64) (g h : Fin 3) (nq nd : ℕ) (hq : 32 - g.val = nq) (hd : 1024 - h.val = nd) (k : Fin 11) :
    refFeature V b g h k = feature (nq := nq) (nd := nd)
      (fun i => gramRow (refFilters V) (refQuery V b) g (Fin.castLE (by omega) i))
      (fun j => gramRow (refFilters V) (refDoc V b) h (Fin.castLE (by omega) j))
      (fun i => refQueryMask V b (Fin.castLE (by omega) i)) (fun j => refDocMask V b (Fin.castLE (by omega) j)) k := by
  subst hq hd
  rfl

/-- The reference's feature result at one place. -/
theorem ref_features (b : Fin 64) (l : Fin 99) :
    (res_main_v380 V : FVec Ideal S64x99 .f32) (ix2 b l) = nine (refFeature V b) l := by
  refine nine_at _ _ _ _ _ _ _ _ _ _ b l _ (fun k => ?_) (fun k => ?_) (fun k => ?_) (fun k => ?_) (fun k => ?_)
    (fun k => ?_) (fun k => ?_) (fun k => ?_) (fun k => ?_)
  · rw [refFeature_eq V b 0 0 32 1024 rfl rfl k]
    exact whole_at _ _ _ _ _ _ _ _ _ _ _ _ _ _ _ b k _ _ _ _
      (fun i j => by pointwise; exact Finset.sum_congr rfl fun c _ => congrArg₂ _ (queryUni V b i c) (docUni V b j c))
      (refTable_at lit0 muBits (by decide) _ k) (refWidth_at lit1 sgBits (by decide) _ _ k) (docMask V b).1 (queryMask V b).1
  · rw [refFeature_eq V b 0 2 32 1022 rfl rfl k]
    exact whole_at _ _ _ _ _ _ _ _ _ _ _ _ _ _ _ b k _ _ _ _
      (fun i j => by pointwise; exact Finset.sum_congr rfl fun c _ => congrArg₂ _ (queryUni V b i c) (docTri V b j c))
      (refTable_at lit2 muBits (by decide) _ k) (refWidth_at lit3 sgBits (by decide) _ _ k) (docMask V b).2.2 (queryMask V b).1
  · rw [refFeature_eq V b 0 1 32 1023 rfl rfl k]
    exact whole_at _ _ _ _ _ _ _ _ _ _ _ _ _ _ _ b k _ _ _ _
      (fun i j => by pointwise; exact Finset.sum_congr rfl fun c _ => congrArg₂ _ (queryUni V b i c) (docBi V b j c))
      (refTable_at lit4 muBits (by decide) _ k) (refWidth_at lit5 sgBits (by decide) _ _ k) (docMask V b).2.1 (queryMask V b).1
  · rw [refFeature_eq V b 1 0 31 1024 rfl rfl k]
    exact whole_at _ _ _ _ _ _ _ _ _ _ _ _ _ _ _ b k _ _ _ _
      (fun i j => by pointwise; exact Finset.sum_congr rfl fun c _ => congrArg₂ _ (queryBi V b i c) (docUni V b j c))
      (refTable_at lit6 muBits (by decide) _ k) (refWidth_at lit7 sgBits (by decide) _ _ k) (docMask V b).1 (queryMask V b).2.1
  · rw [refFeature_eq V b 2 0 30 1024 rfl rfl k]
    exact whole_at _ _ _ _ _ _ _ _ _ _ _ _ _ _ _ b k _ _ _ _
      (fun i j => by pointwise; exact Finset.sum_congr rfl fun c _ => congrArg₂ _ (queryTri V b i c) (docUni V b j c))
      (refTable_at lit8 muBits (by decide) _ k) (refWidth_at lit9 sgBits (by decide) _ _ k) (docMask V b).1 (queryMask V b).2.2
  · rw [refFeature_eq V b 1 1 31 1023 rfl rfl k]
    exact whole_at _ _ _ _ _ _ _ _ _ _ _ _ _ _ _ b k _ _ _ _
      (fun i j => by pointwise; exact Finset.sum_congr rfl fun c _ => congrArg₂ _ (queryBi V b i c) (docBi V b j c))
      (refTable_at lit10 muBits (by decide) _ k) (refWidth_at lit11 sgBits (by decide) _ _ k) (docMask V b).2.1 (queryMask V b).2.1
  · rw [refFeature_eq V b 1 2 31 1022 rfl rfl k]
    exact whole_at _ _ _ _ _ _ _ _ _ _ _ _ _ _ _ b k _ _ _ _
      (fun i j => by pointwise; exact Finset.sum_congr rfl fun c _ => congrArg₂ _ (queryBi V b i c) (docTri V b j c))
      (refTable_at lit12 muBits (by decide) _ k) (refWidth_at lit13 sgBits (by decide) _ _ k) (docMask V b).2.2 (queryMask V b).2.1
  · rw [refFeature_eq V b 2 1 30 1023 rfl rfl k]
    exact whole_at _ _ _ _ _ _ _ _ _ _ _ _ _ _ _ b k _ _ _ _
      (fun i j => by pointwise; exact Finset.sum_congr rfl fun c _ => congrArg₂ _ (queryTri V b i c) (docBi V b j c))
      (refTable_at lit14 muBits (by decide) _ k) (refWidth_at lit15 sgBits (by decide) _ _ k) (docMask V b).2.1 (queryMask V b).2.2
  · rw [refFeature_eq V b 2 2 30 1022 rfl rfl k]
    exact whole_at _ _ _ _ _ _ _ _ _ _ _ _ _ _ _ b k _ _ _ _
      (fun i j => by pointwise; exact Finset.sum_congr rfl fun c _ => congrArg₂ _ (queryTri V b i c) (docTri V b j c))
      (refTable_at lit16 muBits (by decide) _ k) (refWidth_at lit17 sgBits (by decide) _ _ k) (docMask V b).2.2 (queryMask V b).2.2

/-- The reference's score at one place: the features weighted by the final layer, and its bias. -/
theorem ref_score (b : Fin 64) :
    (shapeCast S64 (addf (res_main_v382 V) (broadcastInDim S64x1 ![0, 1] bcast_S1x1_S64x1_0_1
      (broadcastInDim S1x1 ![1] bcast_S1_S1x1_1 (V (Proc.devRef .tc main_arg11))))) shapeCasts_S64x1_S64 : FVec Ideal S64 .f32)
      (ix1 b) = (∑ l : Fin 99, nine (refFeature V b) l * (V (Proc.devRef .tc main_arg10) : FVec Ideal S1x99 .f32) (ix2 0 l))
        + (V (Proc.devRef .tc main_arg11) : FVec Ideal S1 .f32) (ix1 0) := by
  have e : (res_main_v382 V : FVec Ideal S64x1 .f32)
      = (Host.dotGeneral (F := Ideal) (φ₁ := .f32) (φ₂ := .f32) dot_S64x99_S99x1_S64x1_1_0_0_1_n_n none (res_main_v380 V : FVec Ideal S64x99 .f32)
        (transpose S99x1 [1, 0] (V (Proc.devRef .tc main_arg10) : FVec Ideal S1x99 .f32) transposes_S1x99_S99x1_1_0)
        : FVec Ideal S64x1 .f32) := by
    unfold res_main_v382 res_main_v380
    rfl
  rw [e]
  simp only [← ref_features]
  generalize (res_main_v380 V : FVec Ideal S64x99 .f32) = A
  pointwise

end Cert.Ngram

end
-- ==== Proof.lean ====
/-
  The claims: each program runs and leaves its arguments alone, the named constant is preserved, and the kernel's two
  results equal the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KerRun
public import proofs.«01_k».proof.Proof.RefFeatures
public import Idealize.ShloMosaic.Lib.Claim
public import Idealize.ShloMosaic.Lib.Pipeline.FrameTail
public import Idealize.ShloMosaic.Adequacy
public import Idealize.ShloMosaic.Init

@[expose] public section

noncomputable section

namespace Cert.Proof

open Idealize.ShloMosaic Idealize.SL.Sem Cert.Ngram

/-- What the precondition states of shapes holds. -/
theorem masks_facts : Cert.Pre_masks.Facts := ⟨by decide⟩

section

attribute [local instance] masks_facts

/-- The precondition, read place by place: every document mask is zero or one. -/
theorem mask_bits (m : (ℓ : Loc Cert.KernelIdeal.nD Cert.KernelIdeal.τ Cert.KernelIdeal.sig) → Buf (Elt Ideal) ℓ)
    (hpre : Cert.Pre_KernelIdeal_masks m) (c : Dev Cert.KernelIdeal.nD) (b : Fin 64) (j : Fin 1024) :
    kerDocMask m c b j = 0 ∨ kerDocMask m c b j = 1 := by
  have h := congrFun (hpre c) (ix2 b j)
  unfold Cert.Pre_masks.fn at h
  by_contra hn
  rw [not_or] at hn
  have h' : Ideal.cmp .oeq (kerDocMask m c b j) (Ideal.ofBits .f32 0#32)
      ||| Ideal.cmp .oeq (kerDocMask m c b j) (Ideal.ofBits .f32 1065353216#32) = 1#1 := h
  have z : Ideal.ofBits .f32 0#32 = 0 := by simp [Ideal.ofBits, Ideal.ieee]
  have o : Ideal.ofBits .f32 1065353216#32 = 1 := by simp [Ideal.ofBits, Ideal.ieee, -EReal.coe_mul]; norm_num
  rw [z, o] at h'
  simp [Ideal.cmp, hn.1, hn.2] at h'

end

/-- The memories of the two programs agree on the argument arrays. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' (c.tc.loc Cert.ReferenceIdeal.main_arg0) = m (c.tc.loc Cert.KernelIdeal.main_arg0)
  ∧ m' (c.tc.loc Cert.ReferenceIdeal.main_arg1) = m (c.tc.loc Cert.KernelIdeal.main_arg1)
  ∧ m' (c.tc.loc Cert.ReferenceIdeal.main_arg2) = m (c.tc.loc Cert.KernelIdeal.main_arg2)
  ∧ m' (c.tc.loc Cert.ReferenceIdeal.main_arg3) = m (c.tc.loc Cert.KernelIdeal.main_arg3)
  ∧ m' (c.tc.loc Cert.ReferenceIdeal.main_arg4) = m (c.tc.loc Cert.KernelIdeal.main_arg4)
  ∧ m' (c.tc.loc Cert.ReferenceIdeal.main_arg5) = m (c.tc.loc Cert.KernelIdeal.main_arg5)
  ∧ m' (c.tc.loc Cert.ReferenceIdeal.main_arg6) = m (c.tc.loc Cert.KernelIdeal.main_arg6)
  ∧ m' (c.tc.loc Cert.ReferenceIdeal.main_arg7) = m (c.tc.loc Cert.KernelIdeal.main_arg7)
  ∧ m' (c.tc.loc Cert.ReferenceIdeal.main_arg8) = m (c.tc.loc Cert.KernelIdeal.main_arg8)
  ∧ m' (c.tc.loc Cert.ReferenceIdeal.main_arg9) = m (c.tc.loc Cert.KernelIdeal.main_arg9)
  ∧ m' (c.tc.loc Cert.ReferenceIdeal.main_arg10) = m (c.tc.loc Cert.KernelIdeal.main_arg10)
  ∧ m' (c.tc.loc Cert.ReferenceIdeal.main_arg11) = m (c.tc.loc Cert.KernelIdeal.main_arg11)

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- On the same arguments the two programs speak of the same features. -/
theorem feature_agree (h : Agree m m' c) (b : Fin 64) :
    refFeature (StableHlo.launchContents m' c) b = kerFeature m c b := by
  obtain ⟨h0, h1, h2, h3, h4, h5, h6, h7, h8, h9, -, -⟩ := h
  unfold refFeature kerFeature refFilters kerFilters
  refine congr (congr (congr (congr (congrArg pairFeature ?_) ?_) ?_) ?_) ?_
  · exact congr (congr (congr (congr (congr (congrArg filters h4) h5) h6) h7) h8) h9
  · exact funext fun i => funext fun e => congrFun h0 (ix3 b i e)
  · exact funext fun j => funext fun e => congrFun h1 (ix3 b j e)
  · exact funext fun i => congrFun h2 (ix2 b i)
  · exact funext fun j => congrFun h3 (ix2 b j)

/-- The reference's features are the kernel's. -/
theorem features_agree (h : Agree m m' c) :
    (Cert.ReferenceIdeal.Value.res_main_v380 (StableHlo.launchContents m' c) : FVec Ideal Cert.ReferenceIdeal.S64x99 .f32)
      = fun j => nine (kerFeature m c (j 0)) (j 1) := by
  refine funext fun (j : Cert.ReferenceIdeal.S64x99.Idx) => ?_
  have e : j = (ix2 (j 0) (j 1) : Cert.ReferenceIdeal.S64x99.Idx) := funext fun a => by fin_cases a <;> rfl
  refine (congrArg (Cert.ReferenceIdeal.Value.res_main_v380 (StableHlo.launchContents m' c)) e).trans ?_
  refine (ref_features _ (j 0) (j 1)).trans ?_
  exact congrArg (fun f => nine f (j 1)) (feature_agree m m' c h (j 0))

/-- The reference's scores are the kernel's. -/
theorem scores_agree (h : Agree m m' c) (s : FVec Ideal Cert.ReferenceIdeal.S64 .f32)
    (hs : ∀ b, s (ix1 b) = (∑ l : Fin 99, nine (refFeature (StableHlo.launchContents m' c) b) l
        * (StableHlo.launchContents m' c (Proc.devRef .tc Cert.ReferenceIdeal.main_arg10) : FVec Ideal Cert.ReferenceIdeal.S1x99 .f32) (ix2 0 l))
      + (StableHlo.launchContents m' c (Proc.devRef .tc Cert.ReferenceIdeal.main_arg11) : FVec Ideal Cert.ReferenceIdeal.S1 .f32) (ix1 0)) :
    s = fun j => kerScore m c (j 0) := by
  refine funext fun (j : Cert.ReferenceIdeal.S64.Idx) => ?_
  have e : j = (ix1 (j 0) : Cert.ReferenceIdeal.S64.Idx) := funext fun a => by fin_cases a; rfl
  refine (congrArg s e).trans ((hs (j 0)).trans ?_)
  have hf := feature_agree m m' c h (j 0)
  obtain ⟨-, -, -, -, -, -, -, -, -, -, h10, h11⟩ := h
  exact congrArg₂ (· + ·) (Finset.sum_congr rfl fun l _ => congrArg₂ (· * ·) (congrArg (fun f => nine f l) hf) (congrFun h10 (ix2 0 l))) (congrFun h11 (ix1 0))

end

/-- Everything claimed: the three programs run and leave their arguments alone, the named constant is infinity over the
    extended reals, and the kernel's scores and features are the reference's. -/
theorem claim : Cert.Claim := ⟨Cert.Kernel.Gen.facts, Cert.KernelIdeal.Gen.facts, Cert.ReferenceIdeal.Gen.facts, masks_facts,
  fun m g _ => Cert.Kernel.Gen.frame m g, fun m g _ => Cert.KernelIdeal.Gen.frame m g, fun m g _ => Cert.KernelIdeal.Gen.frame m g,
  fun m g _ => (θ_run _ _ _).mono (fun r h => ⟨fun c => (h c).2.2, sem_eq_zero_of_no_sems (by decide) r.2⟩) (Cert.ReferenceIdeal.Value.run m g),
  fun m g _ => (θ_run _ _ _).mono (fun r h => ⟨fun c => (h c).2.2, sem_eq_zero_of_no_sems (by decide) r.2⟩) (Cert.ReferenceIdeal.Value.run m g),
  IdealRules.named_const.statement _ _ _ _ _ rfl, by
  intro m g m' g' hpre hagree
  refine ⟨fun c => (fun j : Cert.KernelIdeal.S64.Idx => kerScore m c (j 0) : FVec Ideal Cert.KernelIdeal.S64 .f32),
    fun c => (fun j : Cert.KernelIdeal.S64x99.Idx => nine (kerFeature m c (j 0)) (j 1) : FVec Ideal Cert.KernelIdeal.S64x99 .f32), ?_, ?_⟩
  · refine θ_run_mono (θ_run_and (Cert.KernelIdeal.Gen.run_main m g) (Cert.KernelIdeal.Gen.frame m g)) fun r h c => ⟨?_, ?_, h.2.1 c⟩
    · exact ((h.1 c).2 Cert.KernelIdeal.main_v0_0 (by decide)).trans (tail_score m c (mask_bits m hpre c))
    · exact ((h.1 c).2 Cert.KernelIdeal.main_v0_1 (by decide)).trans (tail_features m c (mask_bits m hpre c))
  · refine θ_run_mono (Cert.ReferenceIdeal.Value.run m' g') fun r h c => ⟨?_, ?_, (h c).2.2⟩
    · exact (h c).1.trans (scores_agree m m' c (hagree c) _ (ref_score (StableHlo.launchContents m' c)))
    · exact (h c).2.1.trans (features_agree m m' c (hagree c))⟩

end Cert.Proof

end
